-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_KernelIdeal_block_sparse [hPre_block_sparse : Cert.Pre_block_sparse.Facts] (m : (ℓ : Loc Cert.KernelIdeal.nD Cert.KernelIdeal.τ Cert.KernelIdeal.sig) → Buf (Elt Ideal) ℓ) : Prop :=
  ∀ c : Dev Cert.KernelIdeal.nD,
    (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_sparse [hPre_block_sparse : Cert.Pre_block_sparse.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2 = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_block_sparse [hKernelIdeal : Cert.KernelIdeal.Facts] [hPre_block_sparse : Cert.Pre_block_sparse.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_sparse m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_block_sparse [hReferenceIdeal : Cert.ReferenceIdeal.Facts] [hPre_block_sparse : Cert.Pre_block_sparse.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_sparse m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_block_sparse [hKernelIdeal : Cert.KernelIdeal.Facts] [hReferenceIdeal : Cert.ReferenceIdeal.Facts] [hPre_block_sparse : Cert.Pre_block_sparse.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_block_sparse m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v0_0) = v1 c
          ∧ r.2.mem ((c.tc : Thread Cert.ReferenceIdeal.nD Cert.ReferenceIdeal.τ).loc Cert.ReferenceIdeal.main_v0_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tables_in_range : Cert.Pre_tables_in_range.Facts) (hPre_block_sparse : Cert.Pre_block_sparse.Facts),
    quiescent_Kernel (hKernel := hKernel) (hPre_tables_in_range := hPre_tables_in_range)
    ∧ quiescent_KernelIdeal (hKernelIdeal := hKernelIdeal) (hPre_tables_in_range := hPre_tables_in_range)
    ∧ quiescent_KernelIdeal_pre_block_sparse (hKernelIdeal := hKernelIdeal) (hPre_block_sparse := hPre_block_sparse)
    ∧ quiescent_ReferenceIdeal (hReferenceIdeal := hReferenceIdeal)
    ∧ quiescent_ReferenceIdeal_pre_block_sparse (hReferenceIdeal := hReferenceIdeal) (hPre_block_sparse := hPre_block_sparse)
    ∧ preserves_Kernel_KernelIdeal
    ∧ algebraic_KernelIdeal_ReferenceIdeal_pre_block_sparse (hKernelIdeal := hKernelIdeal) (hReferenceIdeal := hReferenceIdeal) (hPre_block_sparse := hPre_block_sparse)
-- ==== Pre_block_sparse.lean ====
abbrev S2048x2560 : Shape := ⟨2, ![2048, 2560]⟩
abbrev S55 : Shape := ⟨1, ![55]⟩
abbrev S162 : Shape := ⟨1, ![162]⟩
abbrev S162x128x128 : Shape := ⟨3, ![162, 128, 128]⟩
abbrev S1x55 : Shape := ⟨2, ![1, 55]⟩
abbrev S162x1 : Shape := ⟨2, ![162, 1]⟩
abbrev S162x55 : Shape := ⟨2, ![162, 55]⟩
abbrev S_ : Shape := ⟨0, ![]⟩
abbrev S1x162 : Shape := ⟨2, ![1, 162]⟩
abbrev S162x162 : Shape := ⟨2, ![162, 162]⟩
abbrev S1 : Shape := ⟨1, ![1]⟩
abbrev S54 : Shape := ⟨1, ![54]⟩

class Facts : Prop where
  bcast_S55_S1x55_1 : S55.BroadcastsInDim S1x55 (![1] : Fin 1 → Fin S1x55.rank)
  bcast_S162_S162x1_0 : S162.BroadcastsInDim S162x1 (![0] : Fin 1 → Fin S162x1.rank)
  bcast_S1x55_S162x55_0_1 : S1x55.BroadcastsInDim S162x55 (![0, 1] : Fin 2 → Fin S162x55.rank)
  bcast_S162x1_S162x55_0_1 : S162x1.BroadcastsInDim S162x55 (![0, 1] : Fin 2 → Fin S162x55.rank)
  natLt_1_32 : 1 < 32
  reducesTo_S162x55_S162_d1 : S162x55.ReducesTo [1] S162
  h_S_ : 0 < S_.numel
  bcast_S_S162 : S_.BroadcastsInDim S162 (![] : Fin 0 → Fin S162.rank)
  bcast_S162_S1x162_1 : S162.BroadcastsInDim S1x162 (![1] : Fin 1 → Fin S1x162.rank)
  bcast_S162x1_S162x162_0_1 : S162x1.BroadcastsInDim S162x162 (![0, 1] : Fin 2 → Fin S162x162.rank)
  bcast_S1x162_S162x162_0_1 : S1x162.BroadcastsInDim S162x162 (![0, 1] : Fin 2 → Fin S162x162.rank)
  bcast_S_S162x1 : S_.BroadcastsInDim S162x1 (![] : Fin 0 → Fin S162x1.rank)
  slices_S55_S1_0 : S55.Slices ![0] S1
  shapeCasts_S1_S_ : S1.ShapeCasts S_
  slices_S55_S1_54 : S55.Slices ![54] S1
  slices_S55_S54_0 : S55.Slices ![0] S54
  slices_S55_S54_1 : S55.Slices ![1] S54
  bcast_S_S2048x2560 : S_.BroadcastsInDim S2048x2560 (![] : Fin 0 → Fin S2048x2560.rank)

variable [Facts]

def fn_part2 {F : FTy → Type} [FloatOps F] (main_arg0 : FVec F S2048x2560 .bf16) (main_arg4 : FVec F S162 .f32) (main_v0 : IVec S162 32) (main_v25 : IVec S162x162 1) (main_v28 : IVec S_ 1) (main_v31 : IVec S_ 1) (main_v34 : IVec S54 1) (main_v39 : IVec S162 1) (main_v40 : IVec S162x1 32) : IVec S_ 1 × IVec S_ 1 × IVec S54 1 × IVec S162 1 × IVec S162x162 1 × IVec S162 1 × IVec S2048x2560 1 :=
  let main_v41 : IVec S1x162 32 := broadcastInDim S1x162 ![1] bcast_S162_S1x162_1 main_v0
  let main_v42 : IVec S162x162 32 := broadcastInDim S162x162 ![0, 1] bcast_S162x1_S162x162_0_1 main_v40
  let main_v43 : IVec S162x162 32 := broadcastInDim S162x162 ![0, 1] bcast_S1x162_S162x162_0_1 main_v41
  let main_v44 : IVec S162x162 1 := cmpi .eq main_v42 main_v43
  let main_v45 : IVec S162x162 1 := noti main_v25
  let main_v46 : IVec S162x162 1 := ori main_v44 main_v45
  let main_cst : FVec F S_ .f32 := constant S_ .f32 0x00000000#32
  let main_v47 : FVec F S162 .f32 := broadcastInDim S162 ![] bcast_S_S162 main_cst
  let main_v48 : IVec S162 1 := cmpf .oge main_arg4 main_v47
  let main_cst_6 : FVec F S_ .f32 := constant S_ .f32 0x7F800000#32
  let main_v49 : FVec F S162 .f32 := broadcastInDim S162 ![] bcast_S_S162 main_cst_6
  let main_v50 : IVec S162 1 := cmpf .olt main_arg4 main_v49
  let main_v51 : IVec S162 1 := andi main_v48 main_v50
  let main_v52 : FVec F S2048x2560 .bf16 := Host.absf main_arg0
  let main_cst_7 : FVec F S_ .bf16 := constant S_ .bf16 0x7F7F#16
  let main_v53 : FVec F S2048x2560 .bf16 := broadcastInDim S2048x2560 ![] bcast_S_S2048x2560 main_cst_7
  let main_v54 : IVec S2048x2560 1 := cmpf .ole main_v52 main_v53
  (main_v28, main_v31, main_v34, main_v39, main_v46, main_v51, main_v54)

def fn_part1 {F : FTy → Type} [FloatOps F] (main_arg0 : FVec F S2048x2560 .bf16) (main_arg1 : IVec S55 32) (main_arg2 : IVec S162 32) (main_arg4 : FVec F S162 .f32) (main_v0 : IVec S162 32) (main_v20 : IVec S162x162 1) (main_v21 : IVec S162x1 32) : IVec S_ 1 × IVec S_ 1 × IVec S54 1 × IVec S162 1 × IVec S162x162 1 × IVec S162 1 × IVec S2048x2560 1 :=
  let main_c_1 : IVec S_ 32 := constantI S_ 32 54#32
  let main_v22 : IVec S162x1 32 := broadcastInDim S162x1 ![] bcast_S_S162x1 main_c_1
  let main_v23 : IVec S162x1 1 := cmpi .slt main_v21 main_v22
  let main_v24 : IVec S162x162 1 := broadcastInDim S162x162 ![0, 1] bcast_S162x1_S162x162_0_1 main_v23
  let main_v25 : IVec S162x162 1 := andi main_v20 main_v24
  let main_v26 : IVec S1 32 := (extractStridedSlice S1 ![0] · slices_S55_S1_0) main_arg1
  let main_v27 : IVec S_ 32 := shapeCast S_ main_v26 shapeCasts_S1_S_
  let main_c_2 : IVec S_ 32 := constantI S_ 32 0#32
  let main_v28 : IVec S_ 1 := cmpi .eq main_v27 main_c_2
  let main_v29 : IVec S1 32 := (extractStridedSlice S1 ![54] · slices_S55_S1_54) main_arg1
  let main_v30 : IVec S_ 32 := shapeCast S_ main_v29 shapeCasts_S1_S_
  let main_c_3 : IVec S_ 32 := constantI S_ 32 162#32
  let main_v31 : IVec S_ 1 := cmpi .sle main_v30 main_c_3
  let main_v32 : IVec S54 32 := (extractStridedSlice S54 ![0] · slices_S55_S54_0) main_arg1
  let main_v33 : IVec S54 32 := (extractStridedSlice S54 ![1] · slices_S55_S54_1) main_arg1
  let main_v34 : IVec S54 1 := cmpi .sle main_v32 main_v33
  let main_c_4 : IVec S_ 32 := constantI S_ 32 0#32
  let main_v35 : IVec S162 32 := broadcastInDim S162 ![] bcast_S_S162 main_c_4
  let main_v36 : IVec S162 1 := cmpi .sge main_arg2 main_v35
  let main_c_5 : IVec S_ 32 := constantI S_ 32 20#32
  let main_v37 : IVec S162 32 := broadcastInDim S162 ![] bcast_S_S162 main_c_5
  let main_v38 : IVec S162 1 := cmpi .slt main_arg2 main_v37
  let main_v39 : IVec S162 1 := andi main_v36 main_v38
  let main_v40 : IVec S162x1 32 := broadcastInDim S162x1 ![0] bcast_S162_S162x1_0 main_v0
  fn_part2 (F := F) main_arg0 main_arg4 main_v0 main_v25 main_v28 main_v31 main_v34 main_v39 main_v40

def fn {F : FTy → Type} [FloatOps F] (main_arg0 : FVec F S2048x2560 .bf16) (main_arg1 : IVec S55 32) (main_arg2 : IVec S162 32) (main_arg3 : FVec F S162x128x128 .fp8e4m3) (main_arg4 : FVec F S162 .f32) : IVec S_ 1 × IVec S_ 1 × IVec S54 1 × IVec S162 1 × IVec S162x162 1 × IVec S162 1 × IVec S2048x2560 1 :=
  let main_v0 : IVec S162 32 := iotaInDim S162 32 0
  let main_v1 : IVec S1x55 32 := broadcastInDim S1x55 ![1] bcast_S55_S1x55_1 main_arg1
  let main_v2 : IVec S162x1 32 := broadcastInDim S162x1 ![0] bcast_S162_S162x1_0 main_v0
  let main_v3 : IVec S162x55 32 := broadcastInDim S162x55 ![0, 1] bcast_S1x55_S162x55_0_1 main_v1
  let main_v4 : IVec S162x55 32 := broadcastInDim S162x55 ![0, 1] bcast_S162x1_S162x55_0_1 main_v2
  let main_v5 : IVec S162x55 1 := cmpi .sle main_v3 main_v4
  let main_v6 : IVec S162x55 32 := (extui 32 · natLt_1_32) main_v5
  let main_c : IVec S_ 32 := constantI S_ 32 0#32
  let main_v7 : IVec S162 32 := (fun x v => Host.reduce IntOp.addi x v reducesTo_S162x55_S162_d1 h_S_) main_v6 main_c
  let main_c_0 : IVec S_ 32 := constantI S_ 32 1#32
  let main_v8 : IVec S162 32 := broadcastInDim S162 ![] bcast_S_S162 main_c_0
  let main_v9 : IVec S162 32 := subi main_v7 main_v8
  let main_v10 : IVec S162x1 32 := broadcastInDim S162x1 ![0] bcast_S162_S162x1_0 main_v9
  let main_v11 : IVec S1x162 32 := broadcastInDim S1x162 ![1] bcast_S162_S1x162_1 main_v9
  let main_v12 : IVec S162x162 32 := broadcastInDim S162x162 ![0, 1] bcast_S162x1_S162x162_0_1 main_v10
  let main_v13 : IVec S162x162 32 := broadcastInDim S162x162 ![0, 1] bcast_S1x162_S162x162_0_1 main_v11
  let main_v14 : IVec S162x162 1 := cmpi .eq main_v12 main_v13
  let main_v15 : IVec S162x1 32 := broadcastInDim S162x1 ![0] bcast_S162_S162x1_0 main_arg2
  let main_v16 : IVec S1x162 32 := broadcastInDim S1x162 ![1] bcast_S162_S1x162_1 main_arg2
  let main_v17 : IVec S162x162 32 := broadcastInDim S162x162 ![0, 1] bcast_S162x1_S162x162_0_1 main_v15
  let main_v18 : IVec S162x162 32 := broadcastInDim S162x162 ![0, 1] bcast_S1x162_S162x162_0_1 main_v16
  let main_v19 : IVec S162x162 1 := cmpi .eq main_v17 main_v18
  let main_v20 : IVec S162x162 1 := andi main_v14 main_v19
  let main_v21 : IVec S162x1 32 := broadcastInDim S162x1 ![0] bcast_S162_S162x1_0 main_v9
  fn_part1 (F := F) main_arg0 main_arg1 main_arg2 main_arg4 main_v0 main_v20 main_v21
-- ==== Pre_tables_in_range.lean ====
abbrev S2048x2560 : Shape := ⟨2, ![2048, 2560]⟩
abbrev S55 : Shape := ⟨1, ![55]⟩
abbrev S162 : Shape := ⟨1, ![162]⟩
abbrev S162x128x128 : Shape := ⟨3, ![162, 128, 128]⟩
abbrev S_ : Shape := ⟨0, ![]⟩

class Facts : Prop where
  bcast_S_S55 : S_.BroadcastsInDim S55 (![] : Fin 0 → Fin S55.rank)
  bcast_S_S162 : S_.BroadcastsInDim S162 (![] : Fin 0 → Fin S162.rank)

variable [Facts]

def fn {F : FTy → Type} [FloatOps F] (main_arg0 : FVec F S2048x2560 .bf16) (main_arg1 : IVec S55 32) (main_arg2 : IVec S162 32) (main_arg3 : FVec F S162x128x128 .fp8e4m3) (main_arg4 : FVec F S162 .f32) : IVec S55 1 × IVec S162 1 :=
  let main_c : IVec S_ 32 := constantI S_ 32 0#32
  let main_v0 : IVec S55 32 := broadcastInDim S55 ![] bcast_S_S55 main_c
  let main_v1 : IVec S55 1 := cmpi .sge main_arg1 main_v0
  let main_c_0 : IVec S_ 32 := constantI S_ 32 162#32
  let main_v2 : IVec S55 32 := broadcastInDim S55 ![] bcast_S_S55 main_c_0
  let main_v3 : IVec S55 1 := cmpi .sle main_arg1 main_v2
  let main_v4 : IVec S55 1 := andi main_v1 main_v3
  let main_c_1 : IVec S_ 32 := constantI S_ 32 0#32
  let main_v5 : IVec S162 32 := broadcastInDim S162 ![] bcast_S_S162 main_c_1
  let main_v6 : IVec S162 1 := cmpi .sge main_arg2 main_v5
  let main_c_2 : IVec S_ 32 := constantI S_ 32 20#32
  let main_v7 : IVec S162 32 := broadcastInDim S162 ![] bcast_S_S162 main_c_2
  let main_v8 : IVec S162 1 := cmpi .slt main_arg2 main_v7
  let main_v9 : IVec S162 1 := andi main_v6 main_v8
  (main_v4, main_v9)
-- ==== Kernel.lean ====
abbrev S2048x2560 : Shape := ⟨2, ![2048, 2560]⟩
abbrev S55 : Shape := ⟨1, ![55]⟩
abbrev S162 : Shape := ⟨1, ![162]⟩
abbrev S162x128x128 : Shape := ⟨3, ![162, 128, 128]⟩
abbrev S2048x6912 : Shape := ⟨2, ![2048, 6912]⟩
abbrev S2048x1 : Shape := ⟨2, ![2048, 1]⟩
abbrev S256x2560 : Shape := ⟨2, ![256, 2560]⟩
abbrev S256x6912 : Shape := ⟨2, ![256, 6912]⟩
abbrev S256x1 : Shape := ⟨2, ![256, 1]⟩
abbrev S256x128 : Shape := ⟨2, ![256, 128]⟩
abbrev S256 : Shape := ⟨1, ![256]⟩
abbrev S1 : Shape := ⟨1, ![1]⟩
abbrev S1x128x128 : Shape := ⟨3, ![1, 128, 128]⟩
abbrev S128x128 : Shape := ⟨2, ![128, 128]⟩

abbrev nBuf : Space → Nat
  | .hbm => 6
  | .vmem => 10
  | .smem => 3
  | _ => 0

abbrev bufTy : (tb : Table) → Fin (tcTables nBuf tb) → BufTy
  | .hbm, ⟨0, _⟩ => ⟨S2048x2560, .bf16⟩
  | .hbm, ⟨1, _⟩ => ⟨S162x128x128, .fp8e4m3⟩
  | .hbm, ⟨2, _⟩ => ⟨S162, .f32⟩
  | .hbm, ⟨3, _⟩ => ⟨S2048x6912, .bf16⟩
  | .hbm, ⟨4, _⟩ => ⟨S2048x2560, .fp8e4m3⟩
  | .hbm, ⟨5, _⟩ => ⟨S2048x1, .f32⟩
  | .local _ .vmem, ⟨0, _⟩ => ⟨S256x2560, .bf16⟩
  | .local _ .vmem, ⟨1, _⟩ => ⟨S256x2560, .bf16⟩
  | .local _ .vmem, ⟨2, _⟩ => ⟨S162x128x128, .fp8e4m3⟩
  | .local _ .vmem, ⟨3, _⟩ => ⟨S256x6912, .bf16⟩
  | .local _ .vmem, ⟨4, _⟩ => ⟨S256x6912, .bf16⟩
  | .local _ .vmem, ⟨5, _⟩ => ⟨S256x2560, .fp8e4m3⟩
  | .local _ .vmem, ⟨6, _⟩ => ⟨S256x2560, .fp8e4m3⟩
  | .local _ .vmem, ⟨7, _⟩ => ⟨S256x1, .f32⟩
  | .local _ .vmem, ⟨8, _⟩ => ⟨S256x1, .f32⟩
  | .local _ .vmem, ⟨9, _⟩ => ⟨S256x128, .f32⟩
  | .local _ .smem, ⟨0, _⟩ => ⟨S55, .i32⟩
  | .local _ .smem, ⟨1, _⟩ => ⟨S162, .i32⟩
  | .local _ .smem, ⟨2, _⟩ => ⟨S162, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32_28 : BitVec 32 := 0#32
  let c54_i32 : BitVec 32 := 54#32
  let v105 : BitVec 32 := Scalar.addi c0_i32_28 c54_i32
  let c1_i32_29 : BitVec 32 := 1#32
  ⟨c0_i32_28, v105, c1_i32_29⟩
def k0_off1 (k0_t1 : Fin k0_t1_loop.trips) : Fin 1 → Nat :=
  let c0_i32_28 : BitVec 32 := 0#32
  let c1_i32_29 : BitVec 32 := 1#32
  let arg10 : BitVec 32 := Scf.iv c0_i32_28 c1_i32_29 k0_t1
  let v110 : Index := Scalar.indexCast arg10
  ![v110.toNat]
def k0_off2 (k0_t1 : Fin k0_t1_loop.trips) : Fin 1 → Nat :=
  let c0_i32_28 : BitVec 32 := 0#32
  let c1_i32_29 : BitVec 32 := 1#32
  let arg10 : BitVec 32 := Scf.iv c0_i32_28 c1_i32_29 k0_t1
  let c1_i32_34 : BitVec 32 := 1#32
  let v112 : BitVec 32 := Scalar.addi arg10 c1_i32_34
  let v113 : Index := Scalar.indexCast v112
  ![v113.toNat]
@[reducible] def k0_t2_loop (v111 : BitVec 32) (v114 : BitVec 32) : Scf.Loop 32 :=
  let v115 : BitVec 32 := Scalar.subi v114 v111
  let c1_i32_36 : BitVec 32 := 1#32
  let v117 : BitVec 32 := Scalar.divsi v115 c1_i32_36
  let v118 : BitVec 32 := Scalar.muli v117 c1_i32_36
  let v119 : BitVec 32 := Scalar.addi v111 v118
  let c1_i32_37 : BitVec 32 := 1#32
  ⟨v111, v119, c1_i32_37⟩

def k0_off3 (v111 : BitVec 32) (v114 : BitVec 32) (k0_t2 : Fin (k0_t2_loop v111 v114).trips) : Fin 1 → Nat :=
  let c1_i32_37 : BitVec 32 := 1#32
  let arg11 : BitVec 32 := Scf.iv v111 c1_i32_37 k0_t2
  let v130 : Index := Scalar.indexCast arg11
  ![v130.toNat]
def k0_mult1 (v131 : BitVec 32) : BitVec 32 :=
  let c128_i32_43 : BitVec 32 := 128#32
  let v132 : BitVec 32 := Scalar.muli v131 c128_i32_43
  v132

def k0_off4 (v131 : BitVec 32) : Fin 2 → Nat :=
  let c0_44 : Index := 0#32
  let c128_i32_43 : BitVec 32 := 128#32
  let v132 : BitVec 32 := Scalar.muli v131 c128_i32_43
  let v133 : BitVec 32 := v132
  let v134 : Index := Scalar.indexCast v133
  ![0, v134.toNat]

def k0_chk2 (v131 : BitVec 32) : Prop :=
  (128 ∣ (k0_mult1 v131).toNat) ∧
  (∀ a, (k0_off4 v131) a + S256x128.size a ≤ S256x2560.size a)
theorem k0_mult1_dvd : ∀ (v131 : BitVec 32) (k0_hw2 : k0_chk2 v131), 128 ∣ (k0_mult1 v131).toNat := fun v131 k0_hw2 => k0_hw2.1
theorem k0_off4_inb : ∀ (v131 : BitVec 32) (k0_hw2 : k0_chk2 v131), ∀ a, (k0_off4 v131) a + S256x128.size a ≤ S256x2560.size a := fun v131 k0_hw2 => k0_hw2.2

def k0_off5 (v111 : BitVec 32) (v114 : BitVec 32) (k0_t2 : Fin (k0_t2_loop v111 v114).trips) : Fin 3 → Nat :=
  let c1_i32_37 : BitVec 32 := 1#32
  let arg11 : BitVec 32 := Scf.iv v111 c1_i32_37 k0_t2
  let v137 : Index := Scalar.indexCast arg11
  let c0_45 : Index := 0#32
  let c0_46 : Index := 0#32
  ![v137.toNat, 0, 0]
def k0_off6 (v111 : BitVec 32) (v114 : BitVec 32) (k0_t2 : Fin (k0_t2_loop v111 v114).trips) : Fin 1 → Nat :=
  let c1_i32_37 : BitVec 32 := 1#32
  let arg11 : BitVec 32 := Scf.iv v111 c1_i32_37 k0_t2
  let v142 : Index := Scalar.indexCast arg11
  ![v142.toNat]
@[reducible] def k0_t3_loop (v111 : BitVec 32) (v114 : BitVec 32) : Scf.Loop 32 :=
  let v115 : BitVec 32 := Scalar.subi v114 v111
  let c1_i32_36 : BitVec 32 := 1#32
  let v117 : BitVec 32 := Scalar.divsi v115 c1_i32_36
  let v118 : BitVec 32 := Scalar.muli v117 c1_i32_36
  let v119 : BitVec 32 := Scalar.addi v111 v118
  let v116 : BitVec 32 := Scalar.addi v111 v115
  let c1_i32_38 : BitVec 32 := 1#32
  ⟨v119, v116, c1_i32_38⟩
def k0_off7 (v111 : BitVec 32) (v114 : BitVec 32) (k0_t3 : Fin (k0_t3_loop v111 v114).trips) : Fin 1 → Nat :=
  let v115 : BitVec 32 := Scalar.subi v114 v111
  let c1_i32_36 : BitVec 32 := 1#32
  let v117 : BitVec 32 := Scalar.divsi v115 c1_i32_36
  let v118 : BitVec 32 := Scalar.muli v117 c1_i32_36
  let v119 : BitVec 32 := Scalar.addi v111 v118
  let c1_i32_38 : BitVec 32 := 1#32
  let arg11 : BitVec 32 := Scf.iv v119 c1_i32_38 k0_t3
  let v130 : Index := Scalar.indexCast arg11
  ![v130.toNat]
def k0_mult2 (v131 : BitVec 32) : BitVec 32 :=
  let c128_i32_43 : BitVec 32 := 128#32
  let v132 : BitVec 32 := Scalar.muli v131 c128_i32_43
  v132

def k0_off8 (v131 : BitVec 32) : Fin 2 → Nat :=
  let c0_44 : Index := 0#32
  let c128_i32_43 : BitVec 32 := 128#32
  let v132 : BitVec 32 := Scalar.muli v131 c128_i32_43
  let v133 : BitVec 32 := v132
  let v134 : Index := Scalar.indexCast v133
  ![0, v134.toNat]

def k0_chk3 (v131 : BitVec 32) : Prop :=
  (128 ∣ (k0_mult2 v131).toNat) ∧
  (∀ a, (k0_off8 v131) a + S256x128.size a ≤ S256x2560.size a)
theorem k0_mult2_dvd : ∀ (v131 : BitVec 32) (k0_hw3 : k0_chk3 v131), 128 ∣ (k0_mult2 v131).toNat := fun v131 k0_hw3 => k0_hw3.1
theorem k0_off8_inb : ∀ (v131 : BitVec 32) (k0_hw3 : k0_chk3 v131), ∀ a, (k0_off8 v131) a + S256x128.size a ≤ S256x2560.size a := fun v131 k0_hw3 => k0_hw3.2

def k0_off9 (v111 : BitVec 32) (v114 : BitVec 32) (k0_t3 : Fin (k0_t3_loop v111 v114).trips) : Fin 3 → Nat :=
  let v115 : BitVec 32 := Scalar.subi v114 v111
  let c1_i32_36 : BitVec 32 := 1#32
  let v117 : BitVec 32 := Scalar.divsi v115 c1_i32_36
  let v118 : BitVec 32 := Scalar.muli v117 c1_i32_36
  let v119 : BitVec 32 := Scalar.addi v111 v118
  let c1_i32_38 : BitVec 32 := 1#32
  let arg11 : BitVec 32 := Scf.iv v119 c1_i32_38 k0_t3
  let v137 : Index := Scalar.indexCast arg11
  let c0_45 : Index := 0#32
  let c0_46 : Index := 0#32
  ![v137.toNat, 0, 0]
def k0_off10 (v111 : BitVec 32) (v114 : BitVec 32) (k0_t3 : Fin (k0_t3_loop v111 v114).trips) : Fin 1 → Nat :=
  let v115 : BitVec 32 := Scalar.subi v114 v111
  let c1_i32_36 : BitVec 32 := 1#32
  let v117 : BitVec 32 := Scalar.divsi v115 c1_i32_36
  let v118 : BitVec 32 := Scalar.muli v117 c1_i32_36
  let v119 : BitVec 32 := Scalar.addi v111 v118
  let c1_i32_38 : BitVec 32 := 1#32
  let arg11 : BitVec 32 := Scf.iv v119 c1_i32_38 k0_t3
  let v142 : Index := Scalar.indexCast arg11
  ![v142.toNat]

def k0_chk1 (v111 : BitVec 32) (v114 : BitVec 32) : Prop :=
  ((k0_t2_loop v111 v114).OK) ∧
  (∀ k0_t2 : Fin (k0_t2_loop v111 v114).trips, ∀ a, (k0_off3 v111 v114 k0_t2) a + S1.size a ≤ S162.size a) ∧
  (∀ k0_t2 : Fin (k0_t2_loop v111 v114).trips, ∀ a, (k0_off5 v111 v114 k0_t2) a + S1x128x128.size a ≤ S162x128x128.size a) ∧
  (∀ k0_t2 : Fin (k0_t2_loop v111 v114).trips, ∀ a, (k0_off6 v111 v114 k0_t2) a + S1.size a ≤ S162.size a) ∧
  ((k0_t3_loop v111 v114).OK) ∧
  (∀ k0_t3 : Fin (k0_t3_loop v111 v114).trips, ∀ a, (k0_off7 v111 v114 k0_t3) a + S1.size a ≤ S162.size a) ∧
  (∀ k0_t3 : Fin (k0_t3_loop v111 v114).trips, ∀ a, (k0_off9 v111 v114 k0_t3) a + S1x128x128.size a ≤ S162x128x128.size a) ∧
  (∀ k0_t3 : Fin (k0_t3_loop v111 v114).trips, ∀ a, (k0_off10 v111 v114 k0_t3) a + S1.size a ≤ S162.size a)
theorem k0_t2_ok : ∀ (v111 : BitVec 32) (v114 : BitVec 32) (k0_hw1 : k0_chk1 v111 v114), (k0_t2_loop v111 v114).OK := fun v111 v114 k0_hw1 => k0_hw1.1
theorem k0_off3_inb : ∀ (v111 : BitVec 32) (v114 : BitVec 32) (k0_hw1 : k0_chk1 v111 v114) (k0_t2 : Fin (k0_t2_loop v111 v114).trips), ∀ a, (k0_off3 v111 v114 k0_t2) a + S1.size a ≤ S162.size a := fun v111 v114 k0_hw1 k0_t2 => k0_hw1.2.1 k0_t2
theorem k0_off5_inb : ∀ (v111 : BitVec 32) (v114 : BitVec 32) (k0_hw1 : k0_chk1 v111 v114) (k0_t2 : Fin (k0_t2_loop v111 v114).trips), ∀ a, (k0_off5 v111 v114 k0_t2) a + S1x128x128.size a ≤ S162x128x128.size a := fun v111 v114 k0_hw1 k0_t2 => k0_hw1.2.2.1 k0_t2
theorem k0_off6_inb : ∀ (v111 : BitVec 32) (v114 : BitVec 32) (k0_hw1 : k0_chk1 v111 v114) (k0_t2 : Fin (k0_t2_loop v111 v114).trips), ∀ a, (k0_off6 v111 v114 k0_t2) a + S1.size a ≤ S162.size a := fun v111 v114 k0_hw1 k0_t2 => k0_hw1.2.2.2.1 k0_t2
theorem k0_t3_ok : ∀ (v111 : BitVec 32) (v114 : BitVec 32) (k0_hw1 : k0_chk1 v111 v114), (k0_t3_loop v111 v114).OK := fun v111 v114 k0_hw1 => k0_hw1.2.2.2.2.1
theorem k0_off7_inb : ∀ (v111 : BitVec 32) (v114 : BitVec 32) (k0_hw1 : k0_chk1 v111 v114) (k0_t3 : Fin (k0_t3_loop v111 v114).trips), ∀ a, (k0_off7 v111 v114 k0_t3) a + S1.size a ≤ S162.size a := fun v111 v114 k0_hw1 k0_t3 => k0_hw1.2.2.2.2.2.1 k0_t3
theorem k0_off9_inb : ∀ (v111 : BitVec 32) (v114 : BitVec 32) (k0_hw1 : k0_chk1 v111 v114) (k0_t3 : Fin (k0_t3_loop v111 v114).trips), ∀ a, (k0_off9 v111 v114 k0_t3) a + S1x128x128.size a ≤ S162x128x128.size a := fun v111 v114 k0_hw1 k0_t3 => k0_hw1.2.2.2.2.2.2.1 k0_t3
theorem k0_off10_inb : ∀ (v111 : BitVec 32) (v114 : BitVec 32) (k0_hw1 : k0_chk1 v111 v114) (k0_t3 : Fin (k0_t3_loop v111 v114).trips), ∀ a, (k0_off10 v111 v114 k0_t3) a + S1.size a ≤ S162.size a := fun v111 v114 k0_hw1 k0_t3 => k0_hw1.2.2.2.2.2.2.2 k0_t3

def k0_mult3 (k0_t1 : Fin k0_t1_loop.trips) : BitVec 32 :=
  let c0_i32_28 : BitVec 32 := 0#32
  let c1_i32_29 : BitVec 32 := 1#32
  let arg10 : BitVec 32 := Scf.iv c0_i32_28 c1_i32_29 k0_t1
  let c128_i32_39 : BitVec 32 := 128#32
  let v122 : BitVec 32 := Scalar.muli arg10 c128_i32_39
  v122
def k0_off11 (k0_t1 : Fin k0_t1_loop.trips) : Fin 2 → Nat :=
  let c0_42 : Index := 0#32
  let c0_i32_28 : BitVec 32 := 0#32
  let c1_i32_29 : BitVec 32 := 1#32
  let arg10 : BitVec 32 := Scf.iv c0_i32_28 c1_i32_29 k0_t1
  let c128_i32_39 : BitVec 32 := 128#32
  let v122 : BitVec 32 := Scalar.muli arg10 c128_i32_39
  let v123 : BitVec 32 := v122
  let v128 : Index := Scalar.indexCast v123
  ![0, v128.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S162x128x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S162 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6912 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x2560 : Shape := ⟨2, ![2048, 2560]⟩
abbrev S55 : Shape := ⟨1, ![55]⟩
abbrev S162 : Shape := ⟨1, ![162]⟩
abbrev S162x128x128 : Shape := ⟨3, ![162, 128, 128]⟩
abbrev S2048x1 : Shape := ⟨2, ![2048, 1]⟩
abbrev S2048 : Shape := ⟨1, ![2048]⟩
abbrev S1x254 : Shape := ⟨2, ![1, 254]⟩
abbrev S2048x254 : Shape := ⟨2, ![2048, 254]⟩
abbrev S1x55 : Shape := ⟨2, ![1, 55]⟩
abbrev S162x1 : Shape := ⟨2, ![162, 1]⟩
abbrev S162x55 : Shape := ⟨2, ![162, 55]⟩
abbrev S_ : Shape := ⟨0, ![]⟩
abbrev S162x1x1 : Shape := ⟨3, ![162, 1, 1]⟩
abbrev S54x128x20x128 : Shape := ⟨4, ![54, 128, 20, 128]⟩
abbrev S162x2 : Shape := ⟨2, ![162, 2]⟩
abbrev S6912x2560 : Shape := ⟨2, ![6912, 2560]⟩
abbrev S2048x6912 : Shape := ⟨2, ![2048, 6912]⟩

abbrev nBuf : Space → Nat
  | .hbm => 50
  | .vmem => 6
  | .smem => 0
  | _ => 0

abbrev bufTy : (tb : Table) → Fin (tcTables nBuf tb) → BufTy
  | .hbm, ⟨0, _⟩ => ⟨S2048x2560, .bf16⟩
  | .hbm, ⟨1, _⟩ => ⟨S55, .i32⟩
  | .hbm, ⟨2, _⟩ => ⟨S162, .i32⟩
  | .hbm, ⟨3, _⟩ => ⟨S162x128x128, .fp8e4m3⟩
  | .hbm, ⟨4, _⟩ => ⟨S162, .f32⟩
  | .hbm, ⟨5, _⟩ => ⟨S2048x2560, .fp8e4m3⟩
  | .hbm, ⟨6, _⟩ => ⟨S2048x1, .f32⟩
  | .hbm, ⟨7, _⟩ => ⟨S2048x2560, .bf16⟩
  | .hbm, ⟨8, _⟩ => ⟨S162x128x128, .bf16⟩
  | .hbm, ⟨9, _⟩ => ⟨S1x55, .i32⟩
  | .hbm, ⟨10, _⟩ => ⟨S162, .i32⟩
  | .hbm, ⟨11, _⟩ => ⟨S162x1, .i32⟩
  | .hbm, ⟨12, _⟩ => ⟨S162x55, .i32⟩
  | .hbm, ⟨13, _⟩ => ⟨S162x55, .i32⟩
  | .hbm, ⟨14, _⟩ => ⟨S162x55, .i1⟩
  | .hbm, ⟨15, _⟩ => ⟨S162x55, .i32⟩
  | .hbm, ⟨16, _⟩ => ⟨S_, .i32⟩
  | .hbm, ⟨17, _⟩ => ⟨S162, .i32⟩
  | .hbm, ⟨18, _⟩ => ⟨S_, .i32⟩
  | .hbm, ⟨19, _⟩ => ⟨S162, .i32⟩
  | .hbm, ⟨20, _⟩ => ⟨S162, .i32⟩
  | .hbm, ⟨21, _⟩ => ⟨S162, .bf16⟩
  | .hbm, ⟨22, _⟩ => ⟨S162x1x1, .bf16⟩
  | .hbm, ⟨23, _⟩ => ⟨S162x128x128, .bf16⟩
  | .hbm, ⟨24, _⟩ => ⟨S162x128x128, .bf16⟩
  | .hbm, ⟨25, _⟩ => ⟨S_, .bf16⟩
  | .hbm, ⟨26, _⟩ => ⟨S54x128x20x128, .bf16⟩
  | .hbm, ⟨27, _⟩ => ⟨S_, .i32⟩
  | .hbm, ⟨28, _⟩ => ⟨S162, .i32⟩
  | .hbm, ⟨29, _⟩ => ⟨S162, .i1⟩
  | .hbm, ⟨30, _⟩ => ⟨S_, .i32⟩
  | .hbm, ⟨31, _⟩ => ⟨S162, .i32⟩
  | .hbm, ⟨32, _⟩ => ⟨S162, .i32⟩
  | .hbm, ⟨33, _⟩ => ⟨S162, .i32⟩
  | .hbm, ⟨34, _⟩ => ⟨S_, .i32⟩
  | .hbm, ⟨35, _⟩ => ⟨S162, .i32⟩
  | .hbm, ⟨36, _⟩ => ⟨S162, .i1⟩
  | .hbm, ⟨37, _⟩ => ⟨S_, .i32⟩
  | .hbm, ⟨38, _⟩ => ⟨S162, .i32⟩
  | .hbm, ⟨39, _⟩ => ⟨S162, .i32⟩
  | .hbm, ⟨40, _⟩ => ⟨S162, .i32⟩
  | .hbm, ⟨41, _⟩ => ⟨S162x1, .i32⟩
  | .hbm, ⟨42, _⟩ => ⟨S162x1, .i32⟩
  | .hbm, ⟨43, _⟩ => ⟨S162x2, .i32⟩
  | .hbm, ⟨44, _⟩ => ⟨S54x128x20x128, .bf16⟩
  | .hbm, ⟨45, _⟩ => ⟨S6912x2560, .bf16⟩
  | .hbm, ⟨46, _⟩ => ⟨S2048x6912, .f32⟩
  | .hbm, ⟨47, _⟩ => ⟨S2048x6912, .f32⟩
  | .hbm, ⟨48, _⟩ => ⟨S2048x6912, .f32⟩
  | .hbm, ⟨49, _⟩ => ⟨S2048x6912, .bf16⟩
  | .local _ .vmem, ⟨0, _⟩ => ⟨S2048x2560, .bf16⟩
  | .local _ .vmem, ⟨1, _⟩ => ⟨S162x128x128, .fp8e4m3⟩
  | .local _ .vmem, ⟨2, _⟩ => ⟨S2048x2560, .fp8e4m3⟩
  | .local _ .vmem, ⟨3, _⟩ => ⟨S2048x1, .f32⟩
  | .local _ .vmem, ⟨4, _⟩ => ⟨S2048x2560, .bf16⟩
  | .local _ .vmem, ⟨5, _⟩ => ⟨S162x128x128, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S162x128x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S162x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Range.lean ====
/- The words of the two tables, read off the precondition that bounds them. -/
module

public import proofs.«01_k».proof.Proof.Gen.Pre_tables_in_range
public import Idealize.ShloMosaic.Lib.StableHlo.Predicate

@[expose] public section

noncomputable section

namespace Cert.Range

open Idealize.ShloMosaic Idealize.ShloMosaic.StableHlo

theorem and_one {a b : BitVec 1} (h : IntOp.andi a b = 1#1) : a = 1#1 ∧ b = 1#1 := by
  revert a b; decide

/-- A word not negative and at most `n`, by the signed comparisons. -/
theorem le_of_bits {a n : BitVec 32} (hn : n.toNat < 2 ^ 31) (h0 : IntOp.cmpi .sge a 0#32 = 1#1) (h1 : IntOp.cmpi .sle a n = 1#1) :
    a.toNat ≤ n.toNat := by
  have hi : 0 ≤ a.toInt := by simpa [IntOp.cmpi, Predicate.ofBool_eq_one_iff, BitVec.sle] using h0
  have ha : a.toNat < 2 ^ 31 := by
    by_contra hc
    rw [BitVec.toInt_eq_toNat_cond] at hi
    have := a.isLt
    split at hi <;> omega
  exact (Predicate.sle_iff_toNat ha hn).mp h1

/-- A word not negative and below `n`, by the signed comparisons. -/
theorem lt_of_bits {a n : BitVec 32} (hn : n.toNat < 2 ^ 31) (h0 : IntOp.cmpi .sge a 0#32 = 1#1) (h1 : IntOp.cmpi .slt a n = 1#1) :
    a.toNat < n.toNat := by
  have hi : 0 ≤ a.toInt := by simpa [IntOp.cmpi, Predicate.ofBool_eq_one_iff, BitVec.sle] using h0
  have ha : a.toNat < 2 ^ 31 := by
    by_contra hc
    rw [BitVec.toInt_eq_toNat_cond] at hi
    have := a.isLt
    split at hi <;> omega
  exact (Predicate.slt_iff_toNat ha hn).mp h1

variable {F : FTy → Type} [FloatOps F]

open Cert.Pre_tables_in_range in
/-- The precondition's two results, all ones, bound the words. -/
theorem of_pre (x : FVec F S2048x2560 .bf16) (W1 : IVec S55 32) (W2 : IVec S162 32) (w : FVec F S162x128x128 .fp8e4m3) (s : FVec F S162 .f32)
    (h : (fn (F := F) x W1 W2 w s).1 = (fun _ => 1#1) ∧ (fn (F := F) x W1 W2 w s).2 = (fun _ => 1#1)) :
    (∀ j, BitVec.toNat (W1 j) ≤ 162) ∧ (∀ j, BitVec.toNat (W2 j) < 20) := by
  obtain ⟨h1, h2⟩ := h
  constructor
  · intro j
    have := and_one (congrFun h1 j)
    exact le_of_bits (n := 162#32) (by decide) this.1 this.2
  · intro j
    have := and_one (congrFun h2 j)
    exact lt_of_bits (n := 20#32) (by decide) this.1 this.2

end Cert.Range
end
-- ==== Proof.Kernel.Body.lean ====
/- The kernel body of the block-sparse product: the invariants of its loops and its triple, with the values. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.WholeRead
public import Idealize.ShloMosaic.Lib.VecWindow

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-! ## Indices -/

/-- The index with one, two and three coordinates. -/
abbrev ix1 {n : ℕ} (i : Fin n) : (⟨1, ![n]⟩ : Shape).Idx := fun a => match a with | 0 => i
abbrev ix2 {n m : ℕ} (i : Fin n) (j : Fin m) : (⟨2, ![n, m]⟩ : Shape).Idx := fun a => match a with | 0 => i | 1 => j
abbrev ix3 {n m l : ℕ} (i : Fin n) (j : Fin m) (k : Fin l) : (⟨3, ![n, m, l]⟩ : Shape).Idx :=
  fun a => match a with | 0 => i | 1 => j | 2 => k

/-! ## The words of the tables -/

/-- A small word read as an integer. -/
theorem toInt_small {a : BitVec 32} (h : a.toNat ≤ 1000000) : a.toInt = (a.toNat : Int) := by
  rw [BitVec.toInt_eq_toNat_cond, if_pos (by omega)]

/-- The upper bound of the loop over a row's blocks. -/
theorem ub2 (a b : BitVec 32) : Scalar.addi a (Scalar.muli (Scalar.divsi (Scalar.subi b a) 1#32) 1#32) = b := by
  rw [Scalar.muli_divsi_one]
  simp only [Scalar.addi, Scalar.subi, IntOp.addi, IntOp.subi]
  rw [BitVec.add_comm, BitVec.sub_add_cancel]

/-- The trips of the loop over a row's blocks. -/
theorem trips2 {a b : BitVec 32} (ha : a.toNat ≤ 162) (hb : b.toNat ≤ 162) :
    (k0_t2_loop a b).trips = b.toNat - a.toNat := by
  show Scf.trips a (Scalar.addi a (Scalar.muli (Scalar.divsi (Scalar.subi b a) 1#32) 1#32)) 1#32 = _
  rw [ub2, Scf.trips, toInt_small (by omega), toInt_small (by omega), show (1#32 : BitVec 32).toInt = 1 from by decide]
  omega

theorem ok2 {a b : BitVec 32} (ha : a.toNat ≤ 162) (hb : b.toNat ≤ 162) : (k0_t2_loop a b).OK := by
  have ht := trips2 ha hb
  refine ⟨show (0 : Int) < (1#32 : BitVec 32).toInt by decide, ?_⟩
  show a.toInt + ((k0_t2_loop a b).trips : Int) * (1#32 : BitVec 32).toInt < _
  rw [ht, toInt_small (by omega), show (1#32 : BitVec 32).toInt = 1 from by decide]
  omega

/-- The induction variable of the loop over a row's blocks: the block's number. -/
theorem iv2 {a : BitVec 32} {k : ℕ} (h : a.toNat + k ≤ 1000) : (Scf.iv a 1#32 k).toNat = a.toNat + k := by
  simp only [Scf.iv, BitVec.mul_one, BitVec.toNat_add, BitVec.toNat_ofNat]
  omega

/-- The remainder loop makes no trip. -/
theorem trips3 (a b : BitVec 32) : (k0_t3_loop a b).trips = 0 := Scf.rem_trips _ _

theorem lt2 {a b : BitVec 32} (ha : a.toNat ≤ 162) (hb : b.toNat ≤ 162) (k : Fin (k0_t2_loop a b).trips) : a.toNat + k.val < 162 := by
  have := lt_of_lt_of_eq k.isLt (trips2 ha hb); omega

/-- The condition the row's body assumes of its two bounds holds of bounds in range. -/
theorem chk1 {a b : BitVec 32} (ha : a.toNat ≤ 162) (hb : b.toNat ≤ 162) : k0_chk1 a b := by
  refine ⟨ok2 ha hb, fun k x => ?_, fun k x => ?_, fun k x => ?_, Scf.rem_ok _ _, fun k => ?_, fun k => ?_, fun k => ?_⟩
  · have h := lt2 ha hb k
    have := iv2 (a := a) (k := k.val) (by omega)
    fin_cases x
    show (Scf.iv a 1#32 k.val).toNat + 1 ≤ 162
    omega
  · have h := lt2 ha hb k
    have := iv2 (a := a) (k := k.val) (by omega)
    fin_cases x
    · show (Scf.iv a 1#32 k.val).toNat + 1 ≤ 162
      omega
    · show 0 + 128 ≤ 128
      omega
    · show 0 + 128 ≤ 128
      omega
  · have h := lt2 ha hb k
    have := iv2 (a := a) (k := k.val) (by omega)
    fin_cases x
    show (Scf.iv a 1#32 k.val).toNat + 1 ≤ 162
    omega
  all_goals exact (Nat.not_lt_zero _ (lt_of_lt_of_eq k.isLt (trips3 a b))).elim

theorem mul128 {w : BitVec 32} (h : w.toNat < 20) : (Scalar.muli w 128#32).toNat = w.toNat * 128 := by
  simp only [Scalar.muli, IntOp.muli, BitVec.toNat_mul, BitVec.toNat_ofNat]
  omega

/-- The condition the block's body assumes of its column holds of a column in range. -/
theorem chk2 {w : BitVec 32} (h : w.toNat < 20) : k0_chk2 w := by
  have hm := mul128 h
  refine ⟨?_, fun x => ?_⟩
  · show 128 ∣ (Scalar.muli w 128#32).toNat
    rw [hm]; exact Nat.dvd_mul_left _ _
  · fin_cases x
    · show 0 + 256 ≤ 256
      omega
    · show (Scalar.muli w 128#32).toNat + 128 ≤ 2560
      omega

/-! ## The values -/

/-- The 128 columns of the codes that the block column `cw` names. -/
def colsOf (q : Vec F S256x2560 .fp8e4m3) (cw : ℕ) : Vec F S256x128 .fp8e4m3 :=
  fun j => q (ix2 (j 0) (Fin.ofNat 2560 (cw * 128 + (j 1).val)))

/-- Block `b` of the weights. -/
def blockOf (w : Vec F S162x128x128 .fp8e4m3) (b : ℕ) : Vec F S1x128x128 .fp8e4m3 :=
  fun j => w (ix3 (Fin.ofNat 162 b) (j 1) (j 2))

/-- One block's step of the accumulator. -/
def accStep (q : Vec F S256x2560 .fp8e4m3) (w : Vec F S162x128x128 .fp8e4m3) (sc : Vec F S162 .f32) (W2 : Vec F S162 .i32) (b : ℕ)
    (a : Vec F S256x128 .f32) : Vec F S256x128 .f32 :=
  k0_pay4 (colsOf q (BitVec.toNat (W2 (ix1 (Fin.ofNat 162 b))))) (blockOf w b) a (sc (ix1 (Fin.ofNat 162 b)))

/-- The accumulator after `k` blocks from block `lo` on. -/
def accAt (q : Vec F S256x2560 .fp8e4m3) (w : Vec F S162x128x128 .fp8e4m3) (sc : Vec F S162 .f32) (W2 : Vec F S162 .i32) (lo : ℕ) :
    ℕ → Vec F S256x128 .f32
  | 0 => k0_pay3
  | k + 1 => accStep q w sc W2 (lo + k) (accAt q w sc W2 lo k)

theorem readAt_R9 {arg9 : Memref sig .tc .vmem S256x128 .f32} (harg9 : arg9.IsWhole) (a : Vec F S256x128 .f32) :
    View.readAt (Elt F) arg9.view (Rect.unit (s := S256x128) ![0, 0] S256x128.size inb_S256x128_S256x128_0_0).toLoadRect (harg9.unread a) = a := by
  exact (View.readAt_full _ _ _).trans (harg9.read_unread a)

theorem write_R9 {arg9 : Memref sig .tc .vmem S256x128 .f32} (harg9 : arg9.IsWhole) (f : arg9.view.ty.Contents (Elt F)) (a : Vec F S256x128 .f32)
    (L : List (View.Piece (Elt F) S256x128 .f32)) :
    arg9.view.writes (Elt F) f (⟨Rect.unit (s := S256x128) ![0, 0] S256x128.size inb_S256x128_S256x128_0_0, a⟩ :: L) = harg9.unread a :=
  harg9.eq_unread (View.read_writes_full _ _ _ _ _)

theorem readAt_word {n : ℕ} {e : EltTy} {arg : Memref sig .tc .smem ⟨1, ![n]⟩ e} (harg : arg.IsWhole) (X : Vec F ⟨1, ![n]⟩ e)
    {off : Fin 1 → ℕ} (inb) (x : (Rect.unit (s := ⟨1, ![n]⟩) off S1.size inb).toLoadRect.shape.Idx) (b : Fin n) (hb : off 0 = b.val) :
    View.readAt (Elt F) arg.view (Rect.unit (s := ⟨1, ![n]⟩) off S1.size inb).toLoadRect (harg.unread X) x = X (ix1 b) := by
  rw [harg.readAt_unread]
  congr 1
  funext a
  fin_cases a
  apply Fin.ext
  have hx : (x 0).val < 1 := (x 0).isLt
  show off 0 + 1 * (x 0).val = b.val
  omega

theorem readAt_block {arg4 : Memref sig .tc .vmem S162x128x128 .fp8e4m3} (harg4 : arg4.IsWhole) (w : Vec F S162x128x128 .fp8e4m3)
    {off : Fin 3 → ℕ} (inb) (b : ℕ) (hb : b < 162) (h0 : off 0 = b) (h1 : off 1 = 0) (h2 : off 2 = 0) :
    View.readAt (Elt F) arg4.view (Rect.unit (s := S162x128x128) off S1x128x128.size inb).toLoadRect (harg4.unread w) = blockOf w b := by
  funext x
  rw [harg4.readAt_unread]
  unfold blockOf
  congr 1
  funext a
  fin_cases a <;> apply Fin.ext
  · have hx : (x 0).val < 1 := (x 0).isLt
    show off 0 + 1 * (x 0).val = b % 162
    omega
  · show off 1 + 1 * (x 1).val = (x 1).val
    omega
  · show off 2 + 1 * (x 2).val = (x 2).val
    omega

theorem readAt_cols {arg7 : Memref sig .tc .vmem S256x2560 .fp8e4m3} (harg7 : arg7.IsWhole) (q : Vec F S256x2560 .fp8e4m3)
    {off : Fin 2 → ℕ} (inb) (cw : ℕ) (hc : cw < 20) (h0 : off 0 = 0) (h1 : off 1 = cw * 128) :
    View.readAt (Elt F) arg7.view (Rect.unit (s := S256x2560) off S256x128.size inb).toLoadRect (harg7.unread q) = colsOf q cw := by
  funext x
  rw [harg7.readAt_unread]
  unfold colsOf
  congr 1
  funext a
  fin_cases a <;> apply Fin.ext
  · show off 0 + 1 * (x 0).val = (x 0).val
    omega
  · have hx : (x 1).val < 128 := (x 1).isLt
    show off 1 + 1 * (x 1).val = (cw * 128 + (x 1).val) % 2560
    omega

section Trip

variable (c : Dev nD) (i : grid0.Coords)
  (arg1 : Memref sig .tc .smem S55 .i32) (harg1 : arg1.IsWhole) (arg2 : Memref sig .tc .smem S162 .i32) (harg2 : arg2.IsWhole)
  (arg3 : Memref sig .tc .vmem S256x2560 .bf16) (harg3 : arg3.IsWhole) (arg4 : Memref sig .tc .vmem S162x128x128 .fp8e4m3) (harg4 : arg4.IsWhole)
  (arg5 : Memref sig .tc .smem S162 .f32) (harg5 : arg5.IsWhole) (arg6 : Memref sig .tc .vmem S256x6912 .bf16) (harg6 : arg6.IsWhole)
  (arg7 : Memref sig .tc .vmem S256x2560 .fp8e4m3) (harg7 : arg7.IsWhole) (arg8 : Memref sig .tc .vmem S256x1 .f32) (harg8 : arg8.IsWhole)
  (arg9 : Memref sig .tc .vmem S256x128 .f32) (harg9 : arg9.IsWhole)
  (W1 : Vec F S55 .i32) (W2 : Vec F S162 .i32)
  (w : Vec F S162x128x128 .fp8e4m3) (sc : Vec F S162 .f32) (q : Vec F S256x2560 .fp8e4m3)

section Inner

variable (v111 v114 : BitVec 32) (hw : k0_chk1 v111 v114)

/-- What a block's step holds: the columns' table, the weights, the scales and the codes as they are, the accumulator at `a`. -/
abbrev res2 (a : Vec F S256x128 .f32) : sProp 𝕄 :=
  iprop((arg2.view.loc (c : Thread nD τ) ↦{fullShare.right} harg2.unread W2) ∗ (arg4.view.loc (c : Thread nD τ) ↦[arg4.view.set]{fullShare} harg4.unread w)
      ∗ (arg5.view.loc (c : Thread nD τ) ↦[arg5.view.set]{fullShare} harg5.unread sc)
      ∗ (arg7.view.loc (c : Thread nD τ) ↦[arg7.view.set]{fullShare} harg7.unread q)
      ∗ (arg9.view.loc (c : Thread nD τ) ↦[arg9.view.set]{fullShare} harg9.unread a))

/-- ONE BLOCK: the accumulator goes by `accStep`. -/
theorem trip_t2 (ha : v111.toNat ≤ 162) (hb : v114.toNat ≤ 162) (hW2 : ∀ b, BitVec.toNat (W2 (ix1 b)) < 20)
    (k : Fin (k0_t2_loop v111 v114).trips) (z : BitVec 32) (a : Vec F S256x128 .f32) :
    res2 c arg2 harg2 arg4 harg4 arg5 harg5 arg7 harg7 arg9 harg9 W2 w sc q a
    ⊢ wp frame (wpE (defs₀ (F := F)) Variants.none c none) Set.univ
        (k0_t2_body (F := F) i arg1 harg1 arg2 harg2 arg3 harg3 arg4 harg4 arg5 harg5 arg6 harg6 arg7 harg7 arg8 harg8 arg9 harg9 v111 v114 hw k z)
        (fun _ => res2 c arg2 harg2 arg4 harg4 arg5 harg5 arg7 harg7 arg9 harg9 W2 w sc q (accStep q w sc W2 (v111.toNat + k.val) a)) := by
  have hlt := lt2 ha hb k
  have hiv := iv2 (a := v111) (k := k.val) (by omega)
  have hfin : (Fin.ofNat 162 (v111.toNat + k.val)).val = v111.toNat + k.val := Nat.mod_eq_of_lt hlt
  have hword : View.readAt (Elt F) arg2.view (Rect.unit (s := S162) (k0_off3 v111 v114 k) S1.size (k0_off3_inb v111 v114 hw k)).toLoadRect
      (harg2.unread W2) (Shape.Idx.first (numel1_S1.symm ▸ Nat.one_pos)) = W2 (ix1 (Fin.ofNat 162 (v111.toNat + k.val))) :=
    readAt_word harg2 W2 _ _ _ (by rw [hfin]; exact hiv)
  have hcol := hW2 (Fin.ofNat 162 (v111.toNat + k.val))
  have hck := chk2 (w := View.readAt (Elt F) arg2.view (Rect.unit (s := S162) (k0_off3 v111 v114 k) S1.size (k0_off3_inb v111 v114 hw k)).toLoadRect
      (harg2.unread W2) (Shape.Idx.first (numel1_S1.symm ▸ Nat.one_pos))) (by rw [hword]; exact hcol)
  unfold k0_t2_body
  iintro ⟨H2, H4, H5, H7, H9⟩
  sl_exec (disch := sl_exact hck)
  sl_step
  unfold trip_t2.sl.r trip_t2.sl.r_1
  rw [write_R9 harg9]
  have e : k0_pay4
            (View.readAt (Elt F) arg7.view
              (Rect.unit (s := S256x2560) (k0_off4 (View.readAt (Elt F) arg2.view (Rect.unit (s := S162) (k0_off3 v111 v114 k) S1.size (k0_off3_inb v111 v114 hw k)).toLoadRect
      (harg2.unread W2) (Shape.Idx.first (numel1_S1.symm ▸ Nat.one_pos)))) S256x128.size (k0_off4_inb _ hck)).toLoadRect
              (harg7.unread q))
            (View.readAt (Elt F) arg4.view (Rect.unit (s := S162x128x128) (k0_off5 v111 v114 k) S1x128x128.size (k0_off5_inb v111 v114 hw k)).toLoadRect
              (harg4.unread w))
            (View.readAt (Elt F) arg9.view (Rect.unit (s := S256x128) ![0, 0] S256x128.size inb_S256x128_S256x128_0_0).toLoadRect
              (harg9.unread a))
            (View.readAt (Elt F) arg5.view (Rect.unit (s := S162) (k0_off6 v111 v114 k) S1.size (k0_off6_inb v111 v114 hw k)).toLoadRect
              (harg5.unread sc) (Shape.Idx.first (numel1_S1.symm ▸ Nat.one_pos)))
      = accStep q w sc W2 (v111.toNat + k.val) a := by
    rw [readAt_R9, readAt_block harg4 w _ (v111.toNat + k.val) hlt hiv rfl rfl,
      readAt_word harg5 sc _ _ (Fin.ofNat 162 (v111.toNat + k.val)) (by rw [hfin]; exact hiv),
      readAt_cols harg7 q _ _ hcol rfl (by
        show (Scalar.muli _ 128#32).toNat = _
        rw [hword]; exact mul128 hcol)]
    rfl
  rw [e]
  isplitl [H2]; · iexact H2
  isplitl [H4]; · iexact H4
  isplitl [H5]; · iexact H5
  isplitl [H7]; · iexact H7
  iexact H9

end Inner

/-- The accumulator's final value for the row block `r`. -/
def rowAcc (q : Vec F S256x2560 .fp8e4m3) (w : Vec F S162x128x128 .fp8e4m3) (sc : Vec F S162 .f32) (W1 : Vec F S55 .i32) (W2 : Vec F S162 .i32)
    (r : ℕ) : Vec F S256x128 .f32 :=
  accAt q w sc W2 (BitVec.toNat (W1 (ix1 (Fin.ofNat 55 r)))) (BitVec.toNat (W1 (ix1 (Fin.ofNat 55 (r + 1)))) - BitVec.toNat (W1 (ix1 (Fin.ofNat 55 r))))

/-- What a row's step holds: the tables, the weights, the scales and the codes as they are, the accumulator at anything, the output's
    block at `f6`. -/
abbrev res1 (f6 : arg6.view.ty.Contents (Elt F)) : sProp 𝕄 :=
  iprop((arg1.view.loc (c : Thread nD τ) ↦{fullShare.right} harg1.unread W1) ∗ (arg2.view.loc (c : Thread nD τ) ↦{fullShare.right} harg2.unread W2) ∗ (arg4.view.loc (c : Thread nD τ) ↦[arg4.view.set]{fullShare} harg4.unread w)
      ∗ (arg5.view.loc (c : Thread nD τ) ↦[arg5.view.set]{fullShare} harg5.unread sc)
      ∗ (arg6.view.loc (c : Thread nD τ) ↦[arg6.view.set]{fullShare} f6)
      ∗ (arg7.view.loc (c : Thread nD τ) ↦[arg7.view.set]{fullShare} harg7.unread q)
      ∗ (∃ f9, arg9.view.loc (c : Thread nD τ) ↦[arg9.view.set]{fullShare} f9))

/-- The piece a row's step stores. -/
def rowPiece (e : IVec S256x1 32) (c127 : BitVec 32) (q : Vec F S256x2560 .fp8e4m3) (w : Vec F S162x128x128 .fp8e4m3) (sc : Vec F S162 .f32)
    (W1 : Vec F S55 .i32) (W2 : Vec F S162 .i32) (r : Fin k0_t1_loop.trips) : View.Piece (Elt F) S256x6912 .bf16 :=
  ⟨Rect.unit (s := S256x6912) (k0_off11 r) S256x128.size (k0_off11_inb r), k0_pay6 e c127 (rowAcc q w sc W1 W2 r.val)⟩

/-- ONE ROW BLOCK. -/
theorem trip_t1 (hW1 : ∀ b, BitVec.toNat (W1 (ix1 b)) ≤ 162) (hW2 : ∀ b, BitVec.toNat (W2 (ix1 b)) < 20)
    (e : IVec S256x1 32) (c127 : BitVec 32) (r : Fin k0_t1_loop.trips) (z : Unit) (f6 : arg6.view.ty.Contents (Elt F)) :
    res1 c arg1 harg1 arg2 harg2 arg4 harg4 arg5 harg5 arg6 arg7 harg7 arg9 W1 W2 w sc q f6
    ⊢ wp frame (wpE (defs₀ (F := F)) Variants.none c none) Set.univ
        (k0_t1_body (F := F) i arg1 harg1 arg2 harg2 arg3 harg3 arg4 harg4 arg5 harg5 arg6 harg6 arg7 harg7 arg8 harg8 arg9 harg9 e c127 r z)
        (fun _ => res1 c arg1 harg1 arg2 harg2 arg4 harg4 arg5 harg5 arg6 arg7 harg7 arg9 W1 W2 w sc q (arg6.view.writes (Elt F) f6 [rowPiece e c127 q w sc W1 W2 r])) := by
  have hr : r.val < 54 := r.isLt
  have hw1 : View.readAt (Elt F) arg1.view (Rect.unit (s := S55) (k0_off1 r) S1.size (k0_off1_inb r)).toLoadRect
      (harg1.unread W1) (Shape.Idx.first (numel1_S1.symm ▸ Nat.one_pos)) = W1 (ix1 (Fin.ofNat 55 r.val)) :=
    readAt_word harg1 W1 _ _ _ (by
      show (Scf.iv 0#32 1#32 r.val).toNat = r.val % 55
      rw [iv2 (by simp; omega)]; simp; omega)
  have hw2 : View.readAt (Elt F) arg1.view (Rect.unit (s := S55) (k0_off2 r) S1.size (k0_off2_inb r)).toLoadRect
      (harg1.unread W1) (Shape.Idx.first (numel1_S1.symm ▸ Nat.one_pos)) = W1 (ix1 (Fin.ofNat 55 (r.val + 1))) :=
    readAt_word harg1 W1 _ _ _ (by
      have := iv2 (a := 0#32) (k := r.val) (by simp; omega)
      show (Scalar.addi (Scf.iv 0#32 1#32 r.val) 1#32).toNat = (r.val + 1) % 55
      simp only [Scalar.addi, IntOp.addi, BitVec.toNat_add, this]; simp; omega)
  have ha : BitVec.toNat (View.readAt (Elt F) arg1.view (Rect.unit (s := S55) (k0_off1 r) S1.size (k0_off1_inb r)).toLoadRect
      (harg1.unread W1) (Shape.Idx.first (numel1_S1.symm ▸ Nat.one_pos))) ≤ 162 := by rw [hw1]; exact hW1 _
  have hb : BitVec.toNat (View.readAt (Elt F) arg1.view (Rect.unit (s := S55) (k0_off2 r) S1.size (k0_off2_inb r)).toLoadRect
      (harg1.unread W1) (Shape.Idx.first (numel1_S1.symm ▸ Nat.one_pos))) ≤ 162 := by rw [hw2]; exact hW1 _
  have hck := chk1 ha hb
  unfold k0_t1_body
  iintro ⟨H1, H2, H4, H5, H6, H7, ⟨%f9, H9⟩⟩
  sl_exec (disch := sl_exact hck)
  sl_for (fun k _ => res2 c arg2 harg2 arg4 harg4 arg5 harg5 arg7 harg7 arg9 harg9 W2 w sc q (accAt q w sc W2 (BitVec.toNat (W1 (ix1 (Fin.ofNat 55 r.val)))) k)) $$ [H2 H4 H5 H7 H9]
  case region =>
    intro k z2
    rw [← hw1]
    exact trip_t2 c i arg1 harg1 arg2 harg2 arg3 harg3 arg4 harg4 arg5 harg5 arg6 harg6 arg7 harg7 arg8 harg8 arg9 harg9 W2 w sc q _ _ hck ha hb hW2 k z2 _
  · unfold trip_t1.sl.H9_1
    rw [write_R9 harg9]
    isplitl [H2]; · iexact H2
    isplitl [H4]; · iexact H4
    isplitl [H5]; · iexact H5
    isplitl [H7]; · iexact H7
    iexact H9
  have htr : (k0_t2_loop (trip_t1.sl.r arg1 harg1 W1 r) (trip_t1.sl.r_1 arg1 harg1 W1 r)).trips
      = BitVec.toNat (W1 (ix1 (Fin.ofNat 55 (r.val + 1)))) - BitVec.toNat (W1 (ix1 (Fin.ofNat 55 r.val))) := by
    rw [← hw1, ← hw2]; exact trips2 ha hb
  rw [show Scf.trips _ _ _ = _ from htr]
  iintro %acc ⟨H2, H4, H5, H7, H9⟩
  sl_exec
  sl_step
  unfold trip_t1.sl.v124
  rw [readAt_R9 harg9]
  isplitl [H1]; · iexact H1
  isplitl [H2]; · iexact H2
  isplitl [H4]; · iexact H4
  isplitl [H5]; · iexact H5
  isplitl [H6]; · iexact H6
  isplitl [H7]; · iexact H7
  iexists _; iexact H9

end Trip

/-- The pieces stored before trip `k`, the newest first. -/
def rowPieces (e : IVec S256x1 32) (c127 : BitVec 32) (q : Vec F S256x2560 .fp8e4m3) (w : Vec F S162x128x128 .fp8e4m3) (sc : Vec F S162 .f32)
    (W1 : Vec F S55 .i32) (W2 : Vec F S162 .i32) : ℕ → List (View.Piece (Elt F) S256x6912 .bf16)
  | 0 => []
  | k + 1 => if h : k < k0_t1_loop.trips then rowPiece e c127 q w sc W1 W2 ⟨k, h⟩ :: rowPieces e c127 q w sc W1 W2 k
      else rowPieces e c127 q w sc W1 W2 k

/-- A block of rows of the output. -/
def yOf (e : IVec S256x1 32) (c127 : BitVec 32) (q : Vec F S256x2560 .fp8e4m3) (w : Vec F S162x128x128 .fp8e4m3) (sc : Vec F S162 .f32)
    (W1 : Vec F S55 .i32) (W2 : Vec F S162 .i32) : Vec F S256x6912 .bf16 := fun i =>
  k0_pay6 e c127 (rowAcc q w sc W1 W2 ((i 1).val / 128)) (ix2 (i 0) ⟨(i 1).val % 128, Nat.mod_lt _ (by decide)⟩)

theorem off11_eq (r : Fin k0_t1_loop.trips) : k0_off11 r = ![0, r.val * 128] := by
  have hr : r.val < 54 := r.isLt
  have h : (Scalar.muli (Scf.iv 0#32 1#32 r.val) 128#32).toNat = r.val * 128 := by
    have := iv2 (a := 0#32) (k := r.val) (by simp; omega)
    simp only [Scalar.muli, IntOp.muli, BitVec.toNat_mul, this]
    simp; omega
  funext a
  match a with
  | 0 => rfl
  | 1 => exact h

/-- After trip `k` the first `k` column blocks are the output's. -/
theorem read_rowPieces {arg6 : Memref sig .tc .vmem S256x6912 .bf16} (f : arg6.view.ty.Contents (Elt F)) (e : IVec S256x1 32) (c127 : BitVec 32)
    (q : Vec F S256x2560 .fp8e4m3) (w : Vec F S162x128x128 .fp8e4m3) (sc : Vec F S162 .f32) (W1 : Vec F S55 .i32) (W2 : Vec F S162 .i32)
    (k : ℕ) (hk : k ≤ 54) (i : S256x6912.Idx) (hi : (i 1).val < 128 * k) :
    arg6.view.read (Elt F) (arg6.view.writes (Elt F) f (rowPieces e c127 q w sc W1 W2 k)) i = yOf e c127 q w sc W1 W2 i := by
  induction k with
  | zero => omega
  | succ k ih =>
    have hk' : k < k0_t1_loop.trips := hk
    rw [rowPieces, dif_pos hk']
    by_cases h : (i 1).val < 128 * k
    · rw [rowPiece, View.read_writes_cons_unit_of_not_mem arg6.view f _ _ _ i (off11_eq ⟨k, hk'⟩) 1 (.inl (by show _ < k * 128; omega))]
      exact ih (by omega) h
    · have hd : (i 1).val / 128 = k := by omega
      refine (View.read_writes_cons_unit_of_mem (size := S256x128.size) arg6.view f (k0_off11_inb ⟨k, hk'⟩) _ _ i
        (ix2 (i 0) ⟨(i 1).val % 128, Nat.mod_lt _ (by decide)⟩) (off11_eq ⟨k, hk'⟩) (fun a => by
          match a with
          | 0 => exact (Nat.zero_add _).symm
          | 1 => show (i 1).val = k * 128 + (i 1).val % 128; omega)).trans ?_
      show k0_pay6 e c127 (rowAcc q w sc W1 W2 k) _ = k0_pay6 e c127 (rowAcc q w sc W1 W2 ((i 1).val / 128)) _
      rw [hd]

/-- The biased exponents of a block of rows. -/
def expo (x : Vec F S256x2560 .bf16) : IVec S256x1 32 := k0_pay13 (k0_pay9 x) (k0_pay10 x) (k0_pay11 x) (k0_pay12 x)
/-- A block of rows of the codes. -/
def codesB (x : Vec F S256x2560 .bf16) : Vec F S256x2560 .fp8e4m3 := k0_pay2 (k0_pay7 x) (expo x)
/-- A block of rows of the scales. -/
def xsB (x : Vec F S256x2560 .bf16) : Vec F S256x1 .f32 := k0_pay1 (expo x) 127#32
/-- A block of rows of the output. -/
def yB (x : Vec F S256x2560 .bf16) (w : Vec F S162x128x128 .fp8e4m3) (sc : Vec F S162 .f32) (W1 : Vec F S55 .i32) (W2 : Vec F S162 .i32) :
    Vec F S256x6912 .bf16 := yOf (expo x) 127#32 (codesB x) w sc W1 W2

section Body
variable (c : Dev nD) (i : grid0.Coords) (arg1 : Memref sig .tc .smem S55 .i32) (harg1 : arg1.IsWhole) (arg2 : Memref sig .tc .smem S162 .i32) (harg2 : arg2.IsWhole) (arg3 : Memref sig .tc .vmem S256x2560 .bf16) (harg3 : arg3.IsWhole) (arg4 : Memref sig .tc .vmem S162x128x128 .fp8e4m3) (harg4 : arg4.IsWhole) (arg5 : Memref sig .tc .smem S162 .f32) (harg5 : arg5.IsWhole) (arg6 : Memref sig .tc .vmem S256x6912 .bf16) (harg6 : arg6.IsWhole) (arg7 : Memref sig .tc .vmem S256x2560 .fp8e4m3) (harg7 : arg7.IsWhole) (arg8 : Memref sig .tc .vmem S256x1 .f32) (harg8 : arg8.IsWhole) (arg9 : Memref sig .tc .vmem S256x128 .f32) (harg9 : arg9.IsWhole)
variable (W1 : Vec F S55 .i32) (W2 : Vec F S162 .i32) (x : Vec F S256x2560 .bf16) (w : Vec F S162x128x128 .fp8e4m3) (sc : Vec F S162 .f32)

/-- ONE GRID STEP: the block of rows `x` to its scales, its codes and its rows of the output. -/
theorem run_body (hW1 : ∀ b, BitVec.toNat (W1 (ix1 b)) ≤ 162) (hW2 : ∀ b, BitVec.toNat (W2 (ix1 b)) < 20) (K : PUnit → sProp 𝕄) :
    iprop(owns (c : Thread nD τ) arg3 fullShare x ∗ owns (c : Thread nD τ) arg4 fullShare w ∗ owns (c : Thread nD τ) arg5 fullShare sc ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (arg1.view.loc (c : Thread nD τ) ↦{fullShare.right} harg1.unread W1) ∗ (arg2.view.loc (c : Thread nD τ) ↦{fullShare.right} harg2.unread W2)
        ∗ (iprop(owns (c : Thread nD τ) arg3 fullShare x ∗ owns (c : Thread nD τ) arg4 fullShare w ∗ owns (c : Thread nD τ) arg5 fullShare sc ∗ owns (c : Thread nD τ) arg6 fullShare (yB x w sc W1 W2) ∗ owns (c : Thread nD τ) arg7 fullShare (codesB x) ∗ owns (c : Thread nD τ) arg8 fullShare (xsB x) ∗ (∃ d, owns (c : Thread nD τ) arg9 fullShare d)
            ∗ (arg1.view.loc (c : Thread nD τ) ↦{fullShare.right} harg1.unread W1) ∗ (arg2.view.loc (c : Thread nD τ) ↦{fullShare.right} harg2.unread W2)) -∗ K ⟨⟩))
      ⊢ wp frame (wpE (defs₀ (F := F)) Variants.none c none) Set.univ (cc0_bsr_fp8 i arg1 harg1 arg2 harg2 arg3 harg3 arg4 harg4 arg5 harg5 arg6 harg6 arg7 harg7 arg8 harg8 arg9 harg9) K := by
  simp only [cc0_bsr_fp8_eq_skeleton]; unfold cc0_bsr_fp8_skel
  simp only [k0_part1_eq_skeleton, k0_part2_eq_skeleton]
  unfold owns
  iintro ⟨⟨%f0, %hf0, H3⟩, ⟨%f1, %hf1, H4⟩, ⟨%f2, %hf2, H5⟩, ⟨%d3, %f3, -, H6⟩, ⟨%d4, %f4, -, H7⟩, ⟨%d5, %f5, -, H8⟩, ⟨%ds0, %fs0, -, H9⟩, H1, H2, Hk⟩
  obtain rfl := harg3.eq_unread hf0; obtain rfl := harg4.eq_unread hf1; obtain rfl := harg5.eq_unread hf2
  sl_exec
  have hx : View.readAt (Elt F) arg3.view (Rect.unit (s := S256x2560) ![0, 0] S256x2560.size inb_S256x2560_S256x2560_0_0).toLoadRect (harg3.unread x) = x :=
    (View.readAt_full _ _ _).trans (harg3.read_unread x)
  have he : run_body.sl.r_5 c arg3 harg3 x = expo x := by
    delta run_body.sl.r_5 run_body.sl.r_4 run_body.sl.r_3 run_body.sl.r_2 run_body.sl.r_1 run_body.sl.r
    rw [hx]; rfl
  have h7 : arg7.view.writes (Elt F) arg7.view.junk (run_body.sl.H7_1 c arg3 harg3 x) = harg7.unread (codesB x) := by
    refine harg7.eq_unread ?_
    delta run_body.sl.H7_1
    refine (View.read_writes_full _ _ _ _ _).trans ?_
    rw [he]
    delta run_body.sl.r_4 run_body.sl.r_3 run_body.sl.r_2 run_body.sl.r_1 run_body.sl.r
    rw [hx]; rfl
  have h8 : arg8.view.writes (Elt F) arg8.view.junk (run_body.sl.H8_1 c arg3 harg3 x) = harg8.unread (xsB x) := by
    refine harg8.eq_unread ?_
    delta run_body.sl.H8_1
    refine (View.read_writes_full _ _ _ _ _).trans ?_
    rw [he]; rfl
  rw [h7, h8, he]
  sl_for (fun k _ => res1 c arg1 harg1 arg2 harg2 arg4 harg4 arg5 harg5 arg6 arg7 harg7 arg9 W1 W2 w sc (codesB x)
    (arg6.view.writes (Elt F) f3 (rowPieces (expo x) 127#32 (codesB x) w sc W1 W2 k))) $$ [H1 H2 H4 H5 H6 H7 H9]
  case region =>
    intro k z
    rw [rowPieces, dif_pos k.isLt]
    exact trip_t1 c i arg1 harg1 arg2 harg2 arg3 harg3 arg4 harg4 arg5 harg5 arg6 harg6 arg7 harg7 arg8 harg8 arg9 harg9 W1 W2 w sc _ hW1 hW2 _ _ k z _
  · isplitl [H1]; · iexact H1
    isplitl [H2]; · iexact H2
    isplitl [H4]; · iexact H4
    isplitl [H5]; · iexact H5
    isplitl [H6]; · iexact H6
    isplitl [H7]; · iexact H7
    iexists _; iexact H9
  iintro %acc ⟨H1, H2, H4, H5, H6, H7, ⟨%f9, H9⟩⟩
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    funext i
    exact read_rowPieces f3 (expo x) 127#32 (codesB x) w sc W1 W2 54 (le_refl _) i (i 1).isLt
  isplitl [H7]
  · iexists _; isplitr; · ipureintro; exact harg7.read_unread _
    iexact H7
  isplitl [H8]
  · iexists _; isplitr; · ipureintro; exact harg8.read_unread _
    iexact H8
  isplitl [H9]
  · iexists _, _; isplitr; swap; · iexact H9
    ipureintro; rfl
  isplitl [H1]; · iexact H1
  iexact H2

end Body
end Cert.Kernel.Body
end
-- ==== Proof.Kernel.Run.lean ====
/- The run of the block-sparse product's program: the pipeline's proof data from the body's values, and the frame. -/
module

public import proofs.«01_k».proof.Proof.Kernel.Body
public import Idealize.ShloMosaic.Lib.Pipeline.Kit
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bsr_fp8 (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S55 .i32 := Memref.whole main_arg1
abbrev htbM0_0 : tbM0_0.IsWhole := Memref.isWhole_whole _
abbrev tbM0_1 : Memref sig .tc .smem S162 .i32 := Memref.whole main_arg2
abbrev htbM0_1 : tbM0_1.IsWhole := Memref.isWhole_whole _

/-- A table memref's buffer on core `c`: its contents type, and it held at HALF the full share at `f`; read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c)))⟩) h

/-- Each window's current staging memref at point `t`, spelled as the pipeline passes it (`bodyAt0`), and its wholeness. -/
abbrev ms0_0 (hO : Ok m) (t : Fin (cfgM m hO).N) : Memref sig .tc .vmem S256x2560 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S162x128x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S162 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x6912 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2560 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The tables' words -/

/-- The two tables, and the range of their words. -/
abbrev tab1 : Vec F S55 .i32 := m (((0 : Dev nD) : Thread nD τ).loc main_arg1)
abbrev tab2 : Vec F S162 .i32 := m (((0 : Dev nD) : Thread nD τ).loc main_arg2)
def InRange : Prop := (∀ b, BitVec.toNat (tab1 m (ix1 b)) ≤ 162) ∧ (∀ b, BitVec.toNat (tab2 m (ix1 b)) < 20)

theorem tab1_eq : htbM0_0.unread (tab1 m) = tbl m 0 := (htbM0_0.eq_unread (f := tbl m 0) rfl).symm
theorem tab2_eq : htbM0_1.unread (tab2 m) = tbl m 1 := (htbM0_1.eq_unread (f := tbl m 1) rfl).symm

/-- The input blocks at point `t`, at the shapes the body has them at. -/
abbrev xblk (hO : Ok m) (c : Dev nD) (t : Fin (cfgM m hO).N) : Vec F S256x2560 .bf16 := iblk m hO c 0 t
abbrev wblk (hO : Ok m) (c : Dev nD) (t : Fin (cfgM m hO).N) : Vec F S162x128x128 .fp8e4m3 := iblk m hO c 1 t
abbrev sblk (hO : Ok m) (c : Dev nD) (t : Fin (cfgM m hO).N) : Vec F S162 .f32 := iblk m hO c 2 t

/-! ## The pipeline's proof data -/

/-- The proof data of the one pipeline on core `c`: the arrays as the region finds them (`V`); after the body at
    point `t` each input's buffer at its block and the outputs' at the body's values; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => yB (xblk m hO c t) (wblk m hO c t) (sblk m hO c t) (tab1 m) (tab2 m)
    | ⟨4, _⟩ => codesB (xblk m hO c t)
    | ⟨5, _⟩ => xsB (xblk m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = yB (xblk m hO c t) (wblk m hO c t) (sblk m hO c t) (tab1 m) (tab2 m) := by dsimp only [dats]; try rfl
theorem after0_4 (hO : Ok m) (c : Dev nD) (t : Fin (cfgM m hO).N) : (dats m hO 0 c).after 4 t = codesB (xblk m hO c t) := by dsimp only [dats]; try rfl
theorem after0_5 (hO : Ok m) (c : Dev nD) (t : Fin (cfgM m hO).N) : (dats m hO 0 c).after 5 t = xsB (xblk m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks, so the body's triple applies. -/
theorem sound_body (hT : InRange m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  rw [← tab1_eq m, ← tab2_eq m]
  iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
  iapply (run_body c (grid0.coords t) _ htbM0_0 _ htbM0_1 _ (hs0_0 m hO t) _ (hs0_1 m hO t) _ (hs0_2 m hO t) _ (hs0_3 m hO t) _ (hs0_4 m hO t) _ (hs0_5 m hO t) _ (Memref.isWhole_whole _) (tab1 m) (tab2 m) (xblk m hO c t) (wblk m hO c t) (sblk m hO c t) hT.1 hT.2 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HT0]; · iexact HT0
  isplitl [HT1]; · iexact HT1
  iintro ⟨H0, H1, H2, H3, H4, H5, HS0, HT0, HT1⟩
  isplitl [HS0 Hg HT0 HT1]
  · isplitl [HS0 Hg]
    · isplitl [HS0]
      · iexact HS0
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hT : InRange m) (hO : Ok m) (c : Dev nD) : BodyObligation (dats (F := F) m hO 0 c) (defs₀ (F := F)) Variants.none () Set.univ := fun t => by
  rw [bigSep_W0, bigSep_W0, defs₀_row m hO]
  exact triple_restated (sound_body m hT hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hT : InRange m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hT hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hT : InRange m) (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hT hO)

/-- `frame` without the counters: the argument arrays end unchanged. -/
theorem unchanged (hT : InRange m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hT hO)

/-- THE FRAME: every run ends with the arguments unchanged and every counter at zero, the tables' words in range. -/
theorem frame (hT : InRange m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hT hO) ((θ_run defs _ _).mono (fun _ h => h.2) (run_main_quiescent m ρ hT hO))

end Cert.Kernel.Body
end
-- ==== Proof.KernelIdeal.Body.lean ====
/- The kernel body of the block-sparse product: the invariants of its loops and its triple, with the values. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.WholeRead
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## Indices -/

/-- The index with one, two and three coordinates. -/
abbrev ix1 {n : ℕ} (i : Fin n) : (⟨1, ![n]⟩ : Shape).Idx := fun a => match a with | 0 => i
abbrev ix2 {n m : ℕ} (i : Fin n) (j : Fin m) : (⟨2, ![n, m]⟩ : Shape).Idx := fun a => match a with | 0 => i | 1 => j
abbrev ix3 {n m l : ℕ} (i : Fin n) (j : Fin m) (k : Fin l) : (⟨3, ![n, m, l]⟩ : Shape).Idx :=
  fun a => match a with | 0 => i | 1 => j | 2 => k

/-! ## The words of the tables -/

/-- A small word read as an integer. -/
theorem toInt_small {a : BitVec 32} (h : a.toNat ≤ 1000000) : a.toInt = (a.toNat : Int) := by
  rw [BitVec.toInt_eq_toNat_cond, if_pos (by omega)]

/-- The upper bound of the loop over a row's blocks. -/
theorem ub2 (a b : BitVec 32) : Scalar.addi a (Scalar.muli (Scalar.divsi (Scalar.subi b a) 1#32) 1#32) = b := by
  rw [Scalar.muli_divsi_one]
  simp only [Scalar.addi, Scalar.subi, IntOp.addi, IntOp.subi]
  rw [BitVec.add_comm, BitVec.sub_add_cancel]

/-- The trips of the loop over a row's blocks. -/
theorem trips2 {a b : BitVec 32} (ha : a.toNat ≤ 162) (hb : b.toNat ≤ 162) :
    (k0_t2_loop a b).trips = b.toNat - a.toNat := by
  show Scf.trips a (Scalar.addi a (Scalar.muli (Scalar.divsi (Scalar.subi b a) 1#32) 1#32)) 1#32 = _
  rw [ub2, Scf.trips, toInt_small (by omega), toInt_small (by omega), show (1#32 : BitVec 32).toInt = 1 from by decide]
  omega

theorem ok2 {a b : BitVec 32} (ha : a.toNat ≤ 162) (hb : b.toNat ≤ 162) : (k0_t2_loop a b).OK := by
  have ht := trips2 ha hb
  refine ⟨show (0 : Int) < (1#32 : BitVec 32).toInt by decide, ?_⟩
  show a.toInt + ((k0_t2_loop a b).trips : Int) * (1#32 : BitVec 32).toInt < _
  rw [ht, toInt_small (by omega), show (1#32 : BitVec 32).toInt = 1 from by decide]
  omega

/-- The induction variable of the loop over a row's blocks: the block's number. -/
theorem iv2 {a : BitVec 32} {k : ℕ} (h : a.toNat + k ≤ 1000) : (Scf.iv a 1#32 k).toNat = a.toNat + k := by
  simp only [Scf.iv, BitVec.mul_one, BitVec.toNat_add, BitVec.toNat_ofNat]
  omega

/-- The remainder loop makes no trip. -/
theorem trips3 (a b : BitVec 32) : (k0_t3_loop a b).trips = 0 := Scf.rem_trips _ _

theorem lt2 {a b : BitVec 32} (ha : a.toNat ≤ 162) (hb : b.toNat ≤ 162) (k : Fin (k0_t2_loop a b).trips) : a.toNat + k.val < 162 := by
  have := lt_of_lt_of_eq k.isLt (trips2 ha hb); omega

/-- The condition the row's body assumes of its two bounds holds of bounds in range. -/
theorem chk1 {a b : BitVec 32} (ha : a.toNat ≤ 162) (hb : b.toNat ≤ 162) : k0_chk1 a b := by
  refine ⟨ok2 ha hb, fun k x => ?_, fun k x => ?_, fun k x => ?_, Scf.rem_ok _ _, fun k => ?_, fun k => ?_, fun k => ?_⟩
  · have h := lt2 ha hb k
    have := iv2 (a := a) (k := k.val) (by omega)
    fin_cases x
    show (Scf.iv a 1#32 k.val).toNat + 1 ≤ 162
    omega
  · have h := lt2 ha hb k
    have := iv2 (a := a) (k := k.val) (by omega)
    fin_cases x
    · show (Scf.iv a 1#32 k.val).toNat + 1 ≤ 162
      omega
    · show 0 + 128 ≤ 128
      omega
    · show 0 + 128 ≤ 128
      omega
  · have h := lt2 ha hb k
    have := iv2 (a := a) (k := k.val) (by omega)
    fin_cases x
    show (Scf.iv a 1#32 k.val).toNat + 1 ≤ 162
    omega
  all_goals exact (Nat.not_lt_zero _ (lt_of_lt_of_eq k.isLt (trips3 a b))).elim

theorem mul128 {w : BitVec 32} (h : w.toNat < 20) : (Scalar.muli w 128#32).toNat = w.toNat * 128 := by
  simp only [Scalar.muli, IntOp.muli, BitVec.toNat_mul, BitVec.toNat_ofNat]
  omega

/-- The condition the block's body assumes of its column holds of a column in range. -/
theorem chk2 {w : BitVec 32} (h : w.toNat < 20) : k0_chk2 w := by
  have hm := mul128 h
  refine ⟨?_, fun x => ?_⟩
  · show 128 ∣ (Scalar.muli w 128#32).toNat
    rw [hm]; exact Nat.dvd_mul_left _ _
  · fin_cases x
    · show 0 + 256 ≤ 256
      omega
    · show (Scalar.muli w 128#32).toNat + 128 ≤ 2560
      omega

/-! ## The values -/

/-- The 128 columns of the codes that the block column `cw` names. -/
def colsOf (q : Vec F S256x2560 .fp8e4m3) (cw : ℕ) : Vec F S256x128 .fp8e4m3 :=
  fun j => q (ix2 (j 0) (Fin.ofNat 2560 (cw * 128 + (j 1).val)))

/-- Block `b` of the weights. -/
def blockOf (w : Vec F S162x128x128 .fp8e4m3) (b : ℕ) : Vec F S1x128x128 .fp8e4m3 :=
  fun j => w (ix3 (Fin.ofNat 162 b) (j 1) (j 2))

/-- One block's step of the accumulator. -/
def accStep (q : Vec F S256x2560 .fp8e4m3) (w : Vec F S162x128x128 .fp8e4m3) (sc : Vec F S162 .f32) (W2 : Vec F S162 .i32) (b : ℕ)
    (a : Vec F S256x128 .f32) : Vec F S256x128 .f32 :=
  k0_pay4 (colsOf q (BitVec.toNat (W2 (ix1 (Fin.ofNat 162 b))))) (blockOf w b) a (sc (ix1 (Fin.ofNat 162 b)))

/-- The accumulator after `k` blocks from block `lo` on. -/
def accAt (q : Vec F S256x2560 .fp8e4m3) (w : Vec F S162x128x128 .fp8e4m3) (sc : Vec F S162 .f32) (W2 : Vec F S162 .i32) (lo : ℕ) :
    ℕ → Vec F S256x128 .f32
  | 0 => k0_pay3
  | k + 1 => accStep q w sc W2 (lo + k) (accAt q w sc W2 lo k)

theorem readAt_R9 {arg9 : Memref sig .tc .vmem S256x128 .f32} (harg9 : arg9.IsWhole) (a : Vec F S256x128 .f32) :
    View.readAt (Elt F) arg9.view (Rect.unit (s := S256x128) ![0, 0] S256x128.size inb_S256x128_S256x128_0_0).toLoadRect (harg9.unread a) = a := by
  exact (View.readAt_full _ _ _).trans (harg9.read_unread a)

theorem write_R9 {arg9 : Memref sig .tc .vmem S256x128 .f32} (harg9 : arg9.IsWhole) (f : arg9.view.ty.Contents (Elt F)) (a : Vec F S256x128 .f32)
    (L : List (View.Piece (Elt F) S256x128 .f32)) :
    arg9.view.writes (Elt F) f (⟨Rect.unit (s := S256x128) ![0, 0] S256x128.size inb_S256x128_S256x128_0_0, a⟩ :: L) = harg9.unread a :=
  harg9.eq_unread (View.read_writes_full _ _ _ _ _)

theorem readAt_word {n : ℕ} {e : EltTy} {arg : Memref sig .tc .smem ⟨1, ![n]⟩ e} (harg : arg.IsWhole) (X : Vec F ⟨1, ![n]⟩ e)
    {off : Fin 1 → ℕ} (inb) (x : (Rect.unit (s := ⟨1, ![n]⟩) off S1.size inb).toLoadRect.shape.Idx) (b : Fin n) (hb : off 0 = b.val) :
    View.readAt (Elt F) arg.view (Rect.unit (s := ⟨1, ![n]⟩) off S1.size inb).toLoadRect (harg.unread X) x = X (ix1 b) := by
  rw [harg.readAt_unread]
  congr 1
  funext a
  fin_cases a
  apply Fin.ext
  have hx : (x 0).val < 1 := (x 0).isLt
  show off 0 + 1 * (x 0).val = b.val
  omega

theorem readAt_block {arg4 : Memref sig .tc .vmem S162x128x128 .fp8e4m3} (harg4 : arg4.IsWhole) (w : Vec F S162x128x128 .fp8e4m3)
    {off : Fin 3 → ℕ} (inb) (b : ℕ) (hb : b < 162) (h0 : off 0 = b) (h1 : off 1 = 0) (h2 : off 2 = 0) :
    View.readAt (Elt F) arg4.view (Rect.unit (s := S162x128x128) off S1x128x128.size inb).toLoadRect (harg4.unread w) = blockOf w b := by
  funext x
  rw [harg4.readAt_unread]
  unfold blockOf
  congr 1
  funext a
  fin_cases a <;> apply Fin.ext
  · have hx : (x 0).val < 1 := (x 0).isLt
    show off 0 + 1 * (x 0).val = b % 162
    omega
  · show off 1 + 1 * (x 1).val = (x 1).val
    omega
  · show off 2 + 1 * (x 2).val = (x 2).val
    omega

theorem readAt_cols {arg7 : Memref sig .tc .vmem S256x2560 .fp8e4m3} (harg7 : arg7.IsWhole) (q : Vec F S256x2560 .fp8e4m3)
    {off : Fin 2 → ℕ} (inb) (cw : ℕ) (hc : cw < 20) (h0 : off 0 = 0) (h1 : off 1 = cw * 128) :
    View.readAt (Elt F) arg7.view (Rect.unit (s := S256x2560) off S256x128.size inb).toLoadRect (harg7.unread q) = colsOf q cw := by
  funext x
  rw [harg7.readAt_unread]
  unfold colsOf
  congr 1
  funext a
  fin_cases a <;> apply Fin.ext
  · show off 0 + 1 * (x 0).val = (x 0).val
    omega
  · have hx : (x 1).val < 128 := (x 1).isLt
    show off 1 + 1 * (x 1).val = (cw * 128 + (x 1).val) % 2560
    omega

section Trip

variable (c : Dev nD) (i : grid0.Coords)
  (arg1 : Memref sig .tc .smem S55 .i32) (harg1 : arg1.IsWhole) (arg2 : Memref sig .tc .smem S162 .i32) (harg2 : arg2.IsWhole)
  (arg3 : Memref sig .tc .vmem S256x2560 .bf16) (harg3 : arg3.IsWhole) (arg4 : Memref sig .tc .vmem S162x128x128 .fp8e4m3) (harg4 : arg4.IsWhole)
  (arg5 : Memref sig .tc .smem S162 .f32) (harg5 : arg5.IsWhole) (arg6 : Memref sig .tc .vmem S256x6912 .bf16) (harg6 : arg6.IsWhole)
  (arg7 : Memref sig .tc .vmem S256x2560 .fp8e4m3) (harg7 : arg7.IsWhole) (arg8 : Memref sig .tc .vmem S256x1 .f32) (harg8 : arg8.IsWhole)
  (arg9 : Memref sig .tc .vmem S256x128 .f32) (harg9 : arg9.IsWhole)
  (W1 : Vec F S55 .i32) (W2 : Vec F S162 .i32)
  (w : Vec F S162x128x128 .fp8e4m3) (sc : Vec F S162 .f32) (q : Vec F S256x2560 .fp8e4m3)

section Inner

variable (v111 v114 : BitVec 32) (hw : k0_chk1 v111 v114)

/-- What a block's step holds: the columns' table, the weights, the scales and the codes as they are, the accumulator at `a`. -/
abbrev res2 (a : Vec F S256x128 .f32) : sProp 𝕄 :=
  iprop((arg2.view.loc (c : Thread nD τ) ↦{fullShare.right} harg2.unread W2) ∗ (arg4.view.loc (c : Thread nD τ) ↦[arg4.view.set]{fullShare} harg4.unread w)
      ∗ (arg5.view.loc (c : Thread nD τ) ↦[arg5.view.set]{fullShare} harg5.unread sc)
      ∗ (arg7.view.loc (c : Thread nD τ) ↦[arg7.view.set]{fullShare} harg7.unread q)
      ∗ (arg9.view.loc (c : Thread nD τ) ↦[arg9.view.set]{fullShare} harg9.unread a))

/-- ONE BLOCK: the accumulator goes by `accStep`. -/
theorem trip_t2 (ha : v111.toNat ≤ 162) (hb : v114.toNat ≤ 162) (hW2 : ∀ b, BitVec.toNat (W2 (ix1 b)) < 20)
    (k : Fin (k0_t2_loop v111 v114).trips) (z : BitVec 32) (a : Vec F S256x128 .f32) :
    res2 c arg2 harg2 arg4 harg4 arg5 harg5 arg7 harg7 arg9 harg9 W2 w sc q a
    ⊢ wp frame (wpE (defs₀ (F := F)) Variants.none c none) Set.univ
        (k0_t2_body (F := F) i arg1 harg1 arg2 harg2 arg3 harg3 arg4 harg4 arg5 harg5 arg6 harg6 arg7 harg7 arg8 harg8 arg9 harg9 v111 v114 hw k z)
        (fun _ => res2 c arg2 harg2 arg4 harg4 arg5 harg5 arg7 harg7 arg9 harg9 W2 w sc q (accStep q w sc W2 (v111.toNat + k.val) a)) := by
  have hlt := lt2 ha hb k
  have hiv := iv2 (a := v111) (k := k.val) (by omega)
  have hfin : (Fin.ofNat 162 (v111.toNat + k.val)).val = v111.toNat + k.val := Nat.mod_eq_of_lt hlt
  have hword : View.readAt (Elt F) arg2.view (Rect.unit (s := S162) (k0_off3 v111 v114 k) S1.size (k0_off3_inb v111 v114 hw k)).toLoadRect
      (harg2.unread W2) (Shape.Idx.first (numel1_S1.symm ▸ Nat.one_pos)) = W2 (ix1 (Fin.ofNat 162 (v111.toNat + k.val))) :=
    readAt_word harg2 W2 _ _ _ (by rw [hfin]; exact hiv)
  have hcol := hW2 (Fin.ofNat 162 (v111.toNat + k.val))
  have hck := chk2 (w := View.readAt (Elt F) arg2.view (Rect.unit (s := S162) (k0_off3 v111 v114 k) S1.size (k0_off3_inb v111 v114 hw k)).toLoadRect
      (harg2.unread W2) (Shape.Idx.first (numel1_S1.symm ▸ Nat.one_pos))) (by rw [hword]; exact hcol)
  unfold k0_t2_body
  iintro ⟨H2, H4, H5, H7, H9⟩
  sl_exec (disch := sl_exact hck)
  sl_step
  unfold trip_t2.sl.r trip_t2.sl.r_1
  rw [write_R9 harg9]
  have e : k0_pay4
            (View.readAt (Elt F) arg7.view
              (Rect.unit (s := S256x2560) (k0_off4 (View.readAt (Elt F) arg2.view (Rect.unit (s := S162) (k0_off3 v111 v114 k) S1.size (k0_off3_inb v111 v114 hw k)).toLoadRect
      (harg2.unread W2) (Shape.Idx.first (numel1_S1.symm ▸ Nat.one_pos)))) S256x128.size (k0_off4_inb _ hck)).toLoadRect
              (harg7.unread q))
            (View.readAt (Elt F) arg4.view (Rect.unit (s := S162x128x128) (k0_off5 v111 v114 k) S1x128x128.size (k0_off5_inb v111 v114 hw k)).toLoadRect
              (harg4.unread w))
            (View.readAt (Elt F) arg9.view (Rect.unit (s := S256x128) ![0, 0] S256x128.size inb_S256x128_S256x128_0_0).toLoadRect
              (harg9.unread a))
            (View.readAt (Elt F) arg5.view (Rect.unit (s := S162) (k0_off6 v111 v114 k) S1.size (k0_off6_inb v111 v114 hw k)).toLoadRect
              (harg5.unread sc) (Shape.Idx.first (numel1_S1.symm ▸ Nat.one_pos)))
      = accStep q w sc W2 (v111.toNat + k.val) a := by
    rw [readAt_R9, readAt_block harg4 w _ (v111.toNat + k.val) hlt hiv rfl rfl,
      readAt_word harg5 sc _ _ (Fin.ofNat 162 (v111.toNat + k.val)) (by rw [hfin]; exact hiv),
      readAt_cols harg7 q _ _ hcol rfl (by
        show (Scalar.muli _ 128#32).toNat = _
        rw [hword]; exact mul128 hcol)]
    rfl
  rw [e]
  isplitl [H2]; · iexact H2
  isplitl [H4]; · iexact H4
  isplitl [H5]; · iexact H5
  isplitl [H7]; · iexact H7
  iexact H9

end Inner

/-- The accumulator's final value for the row block `r`. -/
def rowAcc (q : Vec F S256x2560 .fp8e4m3) (w : Vec F S162x128x128 .fp8e4m3) (sc : Vec F S162 .f32) (W1 : Vec F S55 .i32) (W2 : Vec F S162 .i32)
    (r : ℕ) : Vec F S256x128 .f32 :=
  accAt q w sc W2 (BitVec.toNat (W1 (ix1 (Fin.ofNat 55 r)))) (BitVec.toNat (W1 (ix1 (Fin.ofNat 55 (r + 1)))) - BitVec.toNat (W1 (ix1 (Fin.ofNat 55 r))))

/-- What a row's step holds: the tables, the weights, the scales and the codes as they are, the accumulator at anything, the output's
    block at `f6`. -/
abbrev res1 (f6 : arg6.view.ty.Contents (Elt F)) : sProp 𝕄 :=
  iprop((arg1.view.loc (c : Thread nD τ) ↦{fullShare.right} harg1.unread W1) ∗ (arg2.view.loc (c : Thread nD τ) ↦{fullShare.right} harg2.unread W2) ∗ (arg4.view.loc (c : Thread nD τ) ↦[arg4.view.set]{fullShare} harg4.unread w)
      ∗ (arg5.view.loc (c : Thread nD τ) ↦[arg5.view.set]{fullShare} harg5.unread sc)
      ∗ (arg6.view.loc (c : Thread nD τ) ↦[arg6.view.set]{fullShare} f6)
      ∗ (arg7.view.loc (c : Thread nD τ) ↦[arg7.view.set]{fullShare} harg7.unread q)
      ∗ (∃ f9, arg9.view.loc (c : Thread nD τ) ↦[arg9.view.set]{fullShare} f9))

/-- The piece a row's step stores. -/
def rowPiece (e : IVec S256x1 32) (c127 : BitVec 32) (q : Vec F S256x2560 .fp8e4m3) (w : Vec F S162x128x128 .fp8e4m3) (sc : Vec F S162 .f32)
    (W1 : Vec F S55 .i32) (W2 : Vec F S162 .i32) (r : Fin k0_t1_loop.trips) : View.Piece (Elt F) S256x6912 .bf16 :=
  ⟨Rect.unit (s := S256x6912) (k0_off11 r) S256x128.size (k0_off11_inb r), k0_pay6 e c127 (rowAcc q w sc W1 W2 r.val)⟩

/-- ONE ROW BLOCK. -/
theorem trip_t1 (hW1 : ∀ b, BitVec.toNat (W1 (ix1 b)) ≤ 162) (hW2 : ∀ b, BitVec.toNat (W2 (ix1 b)) < 20)
    (e : IVec S256x1 32) (c127 : BitVec 32) (r : Fin k0_t1_loop.trips) (z : Unit) (f6 : arg6.view.ty.Contents (Elt F)) :
    res1 c arg1 harg1 arg2 harg2 arg4 harg4 arg5 harg5 arg6 arg7 harg7 arg9 W1 W2 w sc q f6
    ⊢ wp frame (wpE (defs₀ (F := F)) Variants.none c none) Set.univ
        (k0_t1_body (F := F) i arg1 harg1 arg2 harg2 arg3 harg3 arg4 harg4 arg5 harg5 arg6 harg6 arg7 harg7 arg8 harg8 arg9 harg9 e c127 r z)
        (fun _ => res1 c arg1 harg1 arg2 harg2 arg4 harg4 arg5 harg5 arg6 arg7 harg7 arg9 W1 W2 w sc q (arg6.view.writes (Elt F) f6 [rowPiece e c127 q w sc W1 W2 r])) := by
  have hr : r.val < 54 := r.isLt
  have hw1 : View.readAt (Elt F) arg1.view (Rect.unit (s := S55) (k0_off1 r) S1.size (k0_off1_inb r)).toLoadRect
      (harg1.unread W1) (Shape.Idx.first (numel1_S1.symm ▸ Nat.one_pos)) = W1 (ix1 (Fin.ofNat 55 r.val)) :=
    readAt_word harg1 W1 _ _ _ (by
      show (Scf.iv 0#32 1#32 r.val).toNat = r.val % 55
      rw [iv2 (by simp; omega)]; simp; omega)
  have hw2 : View.readAt (Elt F) arg1.view (Rect.unit (s := S55) (k0_off2 r) S1.size (k0_off2_inb r)).toLoadRect
      (harg1.unread W1) (Shape.Idx.first (numel1_S1.symm ▸ Nat.one_pos)) = W1 (ix1 (Fin.ofNat 55 (r.val + 1))) :=
    readAt_word harg1 W1 _ _ _ (by
      have := iv2 (a := 0#32) (k := r.val) (by simp; omega)
      show (Scalar.addi (Scf.iv 0#32 1#32 r.val) 1#32).toNat = (r.val + 1) % 55
      simp only [Scalar.addi, IntOp.addi, BitVec.toNat_add, this]; simp; omega)
  have ha : BitVec.toNat (View.readAt (Elt F) arg1.view (Rect.unit (s := S55) (k0_off1 r) S1.size (k0_off1_inb r)).toLoadRect
      (harg1.unread W1) (Shape.Idx.first (numel1_S1.symm ▸ Nat.one_pos))) ≤ 162 := by rw [hw1]; exact hW1 _
  have hb : BitVec.toNat (View.readAt (Elt F) arg1.view (Rect.unit (s := S55) (k0_off2 r) S1.size (k0_off2_inb r)).toLoadRect
      (harg1.unread W1) (Shape.Idx.first (numel1_S1.symm ▸ Nat.one_pos))) ≤ 162 := by rw [hw2]; exact hW1 _
  have hck := chk1 ha hb
  unfold k0_t1_body
  iintro ⟨H1, H2, H4, H5, H6, H7, ⟨%f9, H9⟩⟩
  sl_exec (disch := sl_exact hck)
  sl_for (fun k _ => res2 c arg2 harg2 arg4 harg4 arg5 harg5 arg7 harg7 arg9 harg9 W2 w sc q (accAt q w sc W2 (BitVec.toNat (W1 (ix1 (Fin.ofNat 55 r.val)))) k)) $$ [H2 H4 H5 H7 H9]
  case region =>
    intro k z2
    rw [← hw1]
    exact trip_t2 c i arg1 harg1 arg2 harg2 arg3 harg3 arg4 harg4 arg5 harg5 arg6 harg6 arg7 harg7 arg8 harg8 arg9 harg9 W2 w sc q _ _ hck ha hb hW2 k z2 _
  · unfold trip_t1.sl.H9_1
    rw [write_R9 harg9]
    isplitl [H2]; · iexact H2
    isplitl [H4]; · iexact H4
    isplitl [H5]; · iexact H5
    isplitl [H7]; · iexact H7
    iexact H9
  have htr : (k0_t2_loop (trip_t1.sl.r arg1 harg1 W1 r) (trip_t1.sl.r_1 arg1 harg1 W1 r)).trips
      = BitVec.toNat (W1 (ix1 (Fin.ofNat 55 (r.val + 1)))) - BitVec.toNat (W1 (ix1 (Fin.ofNat 55 r.val))) := by
    rw [← hw1, ← hw2]; exact trips2 ha hb
  rw [show Scf.trips _ _ _ = _ from htr]
  iintro %acc ⟨H2, H4, H5, H7, H9⟩
  sl_exec
  sl_step
  unfold trip_t1.sl.v124
  rw [readAt_R9 harg9]
  isplitl [H1]; · iexact H1
  isplitl [H2]; · iexact H2
  isplitl [H4]; · iexact H4
  isplitl [H5]; · iexact H5
  isplitl [H6]; · iexact H6
  isplitl [H7]; · iexact H7
  iexists _; iexact H9

end Trip

/-- The pieces stored before trip `k`, the newest first. -/
def rowPieces (e : IVec S256x1 32) (c127 : BitVec 32) (q : Vec F S256x2560 .fp8e4m3) (w : Vec F S162x128x128 .fp8e4m3) (sc : Vec F S162 .f32)
    (W1 : Vec F S55 .i32) (W2 : Vec F S162 .i32) : ℕ → List (View.Piece (Elt F) S256x6912 .bf16)
  | 0 => []
  | k + 1 => if h : k < k0_t1_loop.trips then rowPiece e c127 q w sc W1 W2 ⟨k, h⟩ :: rowPieces e c127 q w sc W1 W2 k
      else rowPieces e c127 q w sc W1 W2 k

/-- A block of rows of the output. -/
def yOf (e : IVec S256x1 32) (c127 : BitVec 32) (q : Vec F S256x2560 .fp8e4m3) (w : Vec F S162x128x128 .fp8e4m3) (sc : Vec F S162 .f32)
    (W1 : Vec F S55 .i32) (W2 : Vec F S162 .i32) : Vec F S256x6912 .bf16 := fun i =>
  k0_pay6 e c127 (rowAcc q w sc W1 W2 ((i 1).val / 128)) (ix2 (i 0) ⟨(i 1).val % 128, Nat.mod_lt _ (by decide)⟩)

theorem off11_eq (r : Fin k0_t1_loop.trips) : k0_off11 r = ![0, r.val * 128] := by
  have hr : r.val < 54 := r.isLt
  have h : (Scalar.muli (Scf.iv 0#32 1#32 r.val) 128#32).toNat = r.val * 128 := by
    have := iv2 (a := 0#32) (k := r.val) (by simp; omega)
    simp only [Scalar.muli, IntOp.muli, BitVec.toNat_mul, this]
    simp; omega
  funext a
  match a with
  | 0 => rfl
  | 1 => exact h

/-- After trip `k` the first `k` column blocks are the output's. -/
theorem read_rowPieces {arg6 : Memref sig .tc .vmem S256x6912 .bf16} (f : arg6.view.ty.Contents (Elt F)) (e : IVec S256x1 32) (c127 : BitVec 32)
    (q : Vec F S256x2560 .fp8e4m3) (w : Vec F S162x128x128 .fp8e4m3) (sc : Vec F S162 .f32) (W1 : Vec F S55 .i32) (W2 : Vec F S162 .i32)
    (k : ℕ) (hk : k ≤ 54) (i : S256x6912.Idx) (hi : (i 1).val < 128 * k) :
    arg6.view.read (Elt F) (arg6.view.writes (Elt F) f (rowPieces e c127 q w sc W1 W2 k)) i = yOf e c127 q w sc W1 W2 i := by
  induction k with
  | zero => omega
  | succ k ih =>
    have hk' : k < k0_t1_loop.trips := hk
    rw [rowPieces, dif_pos hk']
    by_cases h : (i 1).val < 128 * k
    · rw [rowPiece, View.read_writes_cons_unit_of_not_mem arg6.view f _ _ _ i (off11_eq ⟨k, hk'⟩) 1 (.inl (by show _ < k * 128; omega))]
      exact ih (by omega) h
    · have hd : (i 1).val / 128 = k := by omega
      refine (View.read_writes_cons_unit_of_mem (size := S256x128.size) arg6.view f (k0_off11_inb ⟨k, hk'⟩) _ _ i
        (ix2 (i 0) ⟨(i 1).val % 128, Nat.mod_lt _ (by decide)⟩) (off11_eq ⟨k, hk'⟩) (fun a => by
          match a with
          | 0 => exact (Nat.zero_add _).symm
          | 1 => show (i 1).val = k * 128 + (i 1).val % 128; omega)).trans ?_
      show k0_pay6 e c127 (rowAcc q w sc W1 W2 k) _ = k0_pay6 e c127 (rowAcc q w sc W1 W2 ((i 1).val / 128)) _
      rw [hd]

/-- The biased exponents of a block of rows. -/
def expo (x : Vec F S256x2560 .bf16) : IVec S256x1 32 := k0_pay13 (k0_pay9 x) (k0_pay10 x) (k0_pay11 x) (k0_pay12 x)
/-- A block of rows of the codes. -/
def codesB (x : Vec F S256x2560 .bf16) : Vec F S256x2560 .fp8e4m3 := k0_pay2 (k0_pay7 x) (expo x)
/-- A block of rows of the scales. -/
def xsB (x : Vec F S256x2560 .bf16) : Vec F S256x1 .f32 := k0_pay1 (expo x) 127#32
/-- A block of rows of the output. -/
def yB (x : Vec F S256x2560 .bf16) (w : Vec F S162x128x128 .fp8e4m3) (sc : Vec F S162 .f32) (W1 : Vec F S55 .i32) (W2 : Vec F S162 .i32) :
    Vec F S256x6912 .bf16 := yOf (expo x) 127#32 (codesB x) w sc W1 W2

section Body
variable (c : Dev nD) (i : grid0.Coords) (arg1 : Memref sig .tc .smem S55 .i32) (harg1 : arg1.IsWhole) (arg2 : Memref sig .tc .smem S162 .i32) (harg2 : arg2.IsWhole) (arg3 : Memref sig .tc .vmem S256x2560 .bf16) (harg3 : arg3.IsWhole) (arg4 : Memref sig .tc .vmem S162x128x128 .fp8e4m3) (harg4 : arg4.IsWhole) (arg5 : Memref sig .tc .smem S162 .f32) (harg5 : arg5.IsWhole) (arg6 : Memref sig .tc .vmem S256x6912 .bf16) (harg6 : arg6.IsWhole) (arg7 : Memref sig .tc .vmem S256x2560 .fp8e4m3) (harg7 : arg7.IsWhole) (arg8 : Memref sig .tc .vmem S256x1 .f32) (harg8 : arg8.IsWhole) (arg9 : Memref sig .tc .vmem S256x128 .f32) (harg9 : arg9.IsWhole)
variable (W1 : Vec F S55 .i32) (W2 : Vec F S162 .i32) (x : Vec F S256x2560 .bf16) (w : Vec F S162x128x128 .fp8e4m3) (sc : Vec F S162 .f32)

/-- ONE GRID STEP: the block of rows `x` to its scales, its codes and its rows of the output. -/
theorem run_body (hW1 : ∀ b, BitVec.toNat (W1 (ix1 b)) ≤ 162) (hW2 : ∀ b, BitVec.toNat (W2 (ix1 b)) < 20) (K : PUnit → sProp 𝕄) :
    iprop(owns (c : Thread nD τ) arg3 fullShare x ∗ owns (c : Thread nD τ) arg4 fullShare w ∗ owns (c : Thread nD τ) arg5 fullShare sc ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (arg1.view.loc (c : Thread nD τ) ↦{fullShare.right} harg1.unread W1) ∗ (arg2.view.loc (c : Thread nD τ) ↦{fullShare.right} harg2.unread W2)
        ∗ (iprop(owns (c : Thread nD τ) arg3 fullShare x ∗ owns (c : Thread nD τ) arg4 fullShare w ∗ owns (c : Thread nD τ) arg5 fullShare sc ∗ owns (c : Thread nD τ) arg6 fullShare (yB x w sc W1 W2) ∗ owns (c : Thread nD τ) arg7 fullShare (codesB x) ∗ owns (c : Thread nD τ) arg8 fullShare (xsB x) ∗ (∃ d, owns (c : Thread nD τ) arg9 fullShare d)
            ∗ (arg1.view.loc (c : Thread nD τ) ↦{fullShare.right} harg1.unread W1) ∗ (arg2.view.loc (c : Thread nD τ) ↦{fullShare.right} harg2.unread W2)) -∗ K ⟨⟩))
      ⊢ wp frame (wpE (defs₀ (F := F)) Variants.none c none) Set.univ (cc0_bsr_fp8 i arg1 harg1 arg2 harg2 arg3 harg3 arg4 harg4 arg5 harg5 arg6 harg6 arg7 harg7 arg8 harg8 arg9 harg9) K := by
  simp only [cc0_bsr_fp8_eq_skeleton]; unfold cc0_bsr_fp8_skel
  simp only [k0_part1_eq_skeleton, k0_part2_eq_skeleton]
  unfold owns
  iintro ⟨⟨%f0, %hf0, H3⟩, ⟨%f1, %hf1, H4⟩, ⟨%f2, %hf2, H5⟩, ⟨%d3, %f3, -, H6⟩, ⟨%d4, %f4, -, H7⟩, ⟨%d5, %f5, -, H8⟩, ⟨%ds0, %fs0, -, H9⟩, H1, H2, Hk⟩
  obtain rfl := harg3.eq_unread hf0; obtain rfl := harg4.eq_unread hf1; obtain rfl := harg5.eq_unread hf2
  sl_exec
  have hx : View.readAt (Elt F) arg3.view (Rect.unit (s := S256x2560) ![0, 0] S256x2560.size inb_S256x2560_S256x2560_0_0).toLoadRect (harg3.unread x) = x :=
    (View.readAt_full _ _ _).trans (harg3.read_unread x)
  have he : run_body.sl.r_5 c arg3 harg3 x = expo x := by
    delta run_body.sl.r_5 run_body.sl.r_4 run_body.sl.r_3 run_body.sl.r_2 run_body.sl.r_1 run_body.sl.r
    rw [hx]; rfl
  have h7 : arg7.view.writes (Elt F) arg7.view.junk (run_body.sl.H7_1 c arg3 harg3 x) = harg7.unread (codesB x) := by
    refine harg7.eq_unread ?_
    delta run_body.sl.H7_1
    refine (View.read_writes_full _ _ _ _ _).trans ?_
    rw [he]
    delta run_body.sl.r_4 run_body.sl.r_3 run_body.sl.r_2 run_body.sl.r_1 run_body.sl.r
    rw [hx]; rfl
  have h8 : arg8.view.writes (Elt F) arg8.view.junk (run_body.sl.H8_1 c arg3 harg3 x) = harg8.unread (xsB x) := by
    refine harg8.eq_unread ?_
    delta run_body.sl.H8_1
    refine (View.read_writes_full _ _ _ _ _).trans ?_
    rw [he]; rfl
  rw [h7, h8, he]
  sl_for (fun k _ => res1 c arg1 harg1 arg2 harg2 arg4 harg4 arg5 harg5 arg6 arg7 harg7 arg9 W1 W2 w sc (codesB x)
    (arg6.view.writes (Elt F) f3 (rowPieces (expo x) 127#32 (codesB x) w sc W1 W2 k))) $$ [H1 H2 H4 H5 H6 H7 H9]
  case region =>
    intro k z
    rw [rowPieces, dif_pos k.isLt]
    exact trip_t1 c i arg1 harg1 arg2 harg2 arg3 harg3 arg4 harg4 arg5 harg5 arg6 harg6 arg7 harg7 arg8 harg8 arg9 harg9 W1 W2 w sc _ hW1 hW2 _ _ k z _
  · isplitl [H1]; · iexact H1
    isplitl [H2]; · iexact H2
    isplitl [H4]; · iexact H4
    isplitl [H5]; · iexact H5
    isplitl [H6]; · iexact H6
    isplitl [H7]; · iexact H7
    iexists _; iexact H9
  iintro %acc ⟨H1, H2, H4, H5, H6, H7, ⟨%f9, H9⟩⟩
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    funext i
    exact read_rowPieces f3 (expo x) 127#32 (codesB x) w sc W1 W2 54 (le_refl _) i (i 1).isLt
  isplitl [H7]
  · iexists _; isplitr; · ipureintro; exact harg7.read_unread _
    iexact H7
  isplitl [H8]
  · iexists _; isplitr; · ipureintro; exact harg8.read_unread _
    iexact H8
  isplitl [H9]
  · iexists _, _; isplitr; swap; · iexact H9
    ipureintro; rfl
  isplitl [H1]; · iexact H1
  iexact H2

end Body
end Cert.KernelIdeal.Body
end
-- ==== Proof.KernelIdeal.Run.lean ====
/- The run of the block-sparse product's program: the pipeline's proof data from the body's values, and the frame. -/
module

public import proofs.«01_k».proof.Proof.KernelIdeal.Body
public import Idealize.ShloMosaic.Lib.Pipeline.Kit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bsr_fp8 (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S55 .i32 := Memref.whole main_arg1
abbrev htbM0_0 : tbM0_0.IsWhole := Memref.isWhole_whole _
abbrev tbM0_1 : Memref sig .tc .smem S162 .i32 := Memref.whole main_arg2
abbrev htbM0_1 : tbM0_1.IsWhole := Memref.isWhole_whole _

/-- A table memref's buffer on core `c`: its contents type, and it held at HALF the full share at `f`; read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c)))⟩) h

/-- Each window's current staging memref at point `t`, spelled as the pipeline passes it (`bodyAt0`), and its wholeness. -/
abbrev ms0_0 (hO : Ok m) (t : Fin (cfgM m hO).N) : Memref sig .tc .vmem S256x2560 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S162x128x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S162 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x6912 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2560 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The tables' words -/

/-- The two tables, and the range of their words. -/
abbrev tab1 : Vec F S55 .i32 := m (((0 : Dev nD) : Thread nD τ).loc main_arg1)
abbrev tab2 : Vec F S162 .i32 := m (((0 : Dev nD) : Thread nD τ).loc main_arg2)
def InRange : Prop := (∀ b, BitVec.toNat (tab1 m (ix1 b)) ≤ 162) ∧ (∀ b, BitVec.toNat (tab2 m (ix1 b)) < 20)

theorem tab1_eq : htbM0_0.unread (tab1 m) = tbl m 0 := (htbM0_0.eq_unread (f := tbl m 0) rfl).symm
theorem tab2_eq : htbM0_1.unread (tab2 m) = tbl m 1 := (htbM0_1.eq_unread (f := tbl m 1) rfl).symm

/-- The input blocks at point `t`, at the shapes the body has them at. -/
abbrev xblk (hO : Ok m) (c : Dev nD) (t : Fin (cfgM m hO).N) : Vec F S256x2560 .bf16 := iblk m hO c 0 t
abbrev wblk (hO : Ok m) (c : Dev nD) (t : Fin (cfgM m hO).N) : Vec F S162x128x128 .fp8e4m3 := iblk m hO c 1 t
abbrev sblk (hO : Ok m) (c : Dev nD) (t : Fin (cfgM m hO).N) : Vec F S162 .f32 := iblk m hO c 2 t

/-! ## The pipeline's proof data -/

/-- The proof data of the one pipeline on core `c`: the arrays as the region finds them (`V`); after the body at
    point `t` each input's buffer at its block and the outputs' at the body's values; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => yB (xblk m hO c t) (wblk m hO c t) (sblk m hO c t) (tab1 m) (tab2 m)
    | ⟨4, _⟩ => codesB (xblk m hO c t)
    | ⟨5, _⟩ => xsB (xblk m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = yB (xblk m hO c t) (wblk m hO c t) (sblk m hO c t) (tab1 m) (tab2 m) := by dsimp only [dats]; try rfl
theorem after0_4 (hO : Ok m) (c : Dev nD) (t : Fin (cfgM m hO).N) : (dats m hO 0 c).after 4 t = codesB (xblk m hO c t) := by dsimp only [dats]; try rfl
theorem after0_5 (hO : Ok m) (c : Dev nD) (t : Fin (cfgM m hO).N) : (dats m hO 0 c).after 5 t = xsB (xblk m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks, so the body's triple applies. -/
theorem sound_body (hT : InRange m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  rw [← tab1_eq m, ← tab2_eq m]
  iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
  iapply (run_body c (grid0.coords t) _ htbM0_0 _ htbM0_1 _ (hs0_0 m hO t) _ (hs0_1 m hO t) _ (hs0_2 m hO t) _ (hs0_3 m hO t) _ (hs0_4 m hO t) _ (hs0_5 m hO t) _ (Memref.isWhole_whole _) (tab1 m) (tab2 m) (xblk m hO c t) (wblk m hO c t) (sblk m hO c t) hT.1 hT.2 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HT0]; · iexact HT0
  isplitl [HT1]; · iexact HT1
  iintro ⟨H0, H1, H2, H3, H4, H5, HS0, HT0, HT1⟩
  isplitl [HS0 Hg HT0 HT1]
  · isplitl [HS0 Hg]
    · isplitl [HS0]
      · iexact HS0
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hT : InRange m) (hO : Ok m) (c : Dev nD) : BodyObligation (dats (F := F) m hO 0 c) (defs₀ (F := F)) Variants.none () Set.univ := fun t => by
  rw [bigSep_W0, bigSep_W0, defs₀_row m hO]
  exact triple_restated (sound_body m hT hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hT : InRange m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hT hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hT : InRange m) (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hT hO)

/-- `frame` without the counters: the argument arrays end unchanged. -/
theorem unchanged (hT : InRange m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hT hO)

/-- THE FRAME: every run ends with the arguments unchanged and every counter at zero, the tables' words in range. -/
theorem frame (hT : InRange m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hT hO) ((θ_run defs _ _).mono (fun _ h => h.2) (run_main_quiescent m ρ hT hO))

end Cert.KernelIdeal.Body
end
-- ==== Proof.Scale.lean ====
module

public import Idealize.ShloMosaic.PureOps.Ideal
public import Idealize.ShloMosaic.PureOps.Ideal.Laws
public import Mathlib.Data.EReal.Operations

@[expose] public section

set_option maxRecDepth 16384

noncomputable section

/-! The row scale of the quantiser as a function of one extended real: the power of two that the kernel's search over
    the exponent field finds, and the least power of two above the value that the reference names. -/
namespace Cert.Scale

open Idealize.ShloMosaic

/-- What the float32 word with exponent field `k` and zero significand denotes. -/
def pw (k : ℕ) : EReal := Ideal.ofBits .f32 (BitVec.ofNat 32 k <<< 23#32)

theorem fields : ∀ k : Fin 256, (BitVec.ofNat 32 k.val <<< 23#32).extractLsb' 31 1 = 0#1
    ∧ ((BitVec.ofNat 32 k.val <<< 23#32).extractLsb' 23 8).toNat = k.val
    ∧ ((BitVec.ofNat 32 k.val <<< 23#32).extractLsb' 0 23).toNat = 0 := by decide

/-- A float32 word with sign 0, the fields `k` and `f`, `k` between 1 and 254. -/
theorem f32_eq (b : BitVec 32) (k f : ℕ) (hs : b.extractLsb' 31 1 = 0#1) (he : (b.extractLsb' 23 8).toNat = k)
    (hf : (b.extractLsb' 0 23).toNat = f) (h1 : 1 ≤ k) (h2 : k ≤ 254) :
    Ideal.ofBits .f32 b = (((2 ^ 23 + f : ℕ) * (2 : ℝ) ^ ((k : ℤ) - 150) : ℝ) : EReal) := by
  show Ideal.ieee 8 23 b = _
  have n1 : ¬ k = 2 ^ 8 - 1 := by omega
  have n2 : ¬ k = 0 := by omega
  have hb : ((0#1 : BitVec 1) == 1#1) = false := by decide
  unfold Ideal.ieee
  simp only [Nat.reduceAdd, hs, he, hf, if_neg n1, if_neg n2, hb, Bool.false_eq_true, if_false, one_mul]
  congr 3
  norm_num
  ring

/-- A field between 1 and 254 is a power of two. -/
theorem pw_eq {k : ℕ} (h1 : 1 ≤ k) (h2 : k ≤ 254) : pw k = (((2 : ℝ) ^ ((k : ℤ) - 127) : ℝ) : EReal) := by
  have h := fields ⟨k, by omega⟩
  unfold pw
  rw [f32_eq _ k 0 h.1 h.2.1 h.2.2 h1 h2]
  congr 1
  rw [show ((k : ℤ) - 127) = 23 + ((k : ℤ) - 150) by ring, zpow_add₀ (by norm_num)]
  norm_num

theorem inf_eq (b : BitVec 32) (hs : b.extractLsb' 31 1 = 0#1) (he : (b.extractLsb' 23 8).toNat = 255)
    (hf : (b.extractLsb' 0 23).toNat = 0) : Ideal.ofBits .f32 b = ⊤ := by
  show Ideal.ieee 8 23 b = _
  have hb : ((0#1 : BitVec 1) == 1#1) = false := by decide
  have n1 : 255 = 2 ^ 8 - 1 := by norm_num
  unfold Ideal.ieee
  simp only [Nat.reduceAdd, hs, he, hf, hb, if_pos n1, if_true, Bool.false_eq_true, if_false]

/-- The all-ones field is infinity. -/
theorem pw_255 : pw 255 = ⊤ := inf_eq _ (fields 255).1 (fields 255).2.1 (fields 255).2.2

/-- The powers grow with the field. -/
theorem pw_mono {k l : ℕ} (h1 : 1 ≤ k) (hkl : k ≤ l) (h2 : l ≤ 255) : pw k ≤ pw l := by
  rcases Nat.lt_or_ge l 255 with hl | hl
  · rw [pw_eq h1 (by omega), pw_eq (by omega) (by omega), EReal.coe_le_coe_iff]
    exact zpow_le_zpow_right₀ (by norm_num) (by omega)
  · rw [show l = 255 by omega, pw_255]; exact le_top

/-- One step of the search: add `s` to the field if the power it gives is not above `v`. -/
def stepK (v : EReal) (s k : ℕ) : ℕ := if pw (k + s) ≤ v then k + s else k

/-- What holds between two steps of the search: the power at `k` is not above `v`, the one at `k + w` is. -/
def Inv (v : EReal) (w k : ℕ) : Prop := k + w ≤ 256 ∧ (k = 0 ∨ pw k ≤ v) ∧ (k + w ≤ 255 → v < pw (k + w))

theorem Inv.step {v : EReal} {w k : ℕ} (s : ℕ) (hw : w = 2 * s) (hs : 1 ≤ s) (h : Inv v w k) : Inv v s (stepK v s k) := by
  subst hw
  obtain ⟨h1, h2, h3⟩ := h
  unfold stepK
  split
  · next hc => exact ⟨by omega, .inr hc, fun hh => by have := h3 (by omega); rwa [show k + s + s = k + 2 * s by ring]⟩
  · next hc => exact ⟨by omega, h2, fun _ => not_le.1 hc⟩

/-- The exponent field of `v`, by binary search. -/
def field (v : EReal) : ℕ :=
  stepK v 1 (stepK v 2 (stepK v 4 (stepK v 8 (stepK v 16 (stepK v 32 (stepK v 64 (stepK v 128 0)))))))

theorem field_inv (v : EReal) : Inv v 1 (field v) := by
  have h0 : Inv v 256 0 := ⟨by omega, .inl rfl, fun h => absurd h (by omega)⟩
  exact (((((((h0.step 128 rfl (by omega)).step 64 rfl (by omega)).step 32 rfl (by omega)).step 16 rfl (by omega)).step 8 rfl
    (by omega)).step 4 rfl (by omega)).step 2 rfl (by omega)).step 1 rfl (by omega)

/-- Below the power at 253 the field found is at most 252, and the next power is the first above `v`. -/
theorem field_spec {v : EReal} (hv : v < pw 253) : field v ≤ 252 ∧ (field v = 0 ∨ pw (field v) ≤ v) ∧ v < pw (field v + 1) := by
  obtain ⟨h1, h2, h3⟩ := field_inv v
  have hk : field v ≤ 252 := by
    by_contra hc
    rcases h2 with h2 | h2
    · omega
    · exact absurd (lt_of_le_of_lt h2 hv) (not_lt.2 (pw_mono (by omega) (by omega) (by omega)))
  exact ⟨hk, h2, h3 (by omega)⟩

/-- The least power of two above `v` among the normal ones, as a minimum over the 254 of them. -/
theorem least {v : EReal} (hv : v < pw 253) :
    Finset.univ.fold min ⊤ (fun j : Fin 254 => if v < pw (j.val + 1) then pw (j.val + 1) else ⊤) = pw (field v + 1) := by
  obtain ⟨h1, h2, h3⟩ := field_spec hv
  apply le_antisymm
  · rw [Finset.fold_min_le]
    refine .inr ⟨⟨field v, by omega⟩, Finset.mem_univ _, ?_⟩
    simp only [if_pos h3, le_refl]
  · rw [Finset.le_fold_min]
    refine ⟨le_top, fun j _ => ?_⟩
    split
    · next hj =>
      apply pw_mono (by omega) _ (by omega)
      by_contra hc
      rcases h2 with h2 | h2
      · omega
      · exact absurd (lt_of_le_of_lt h2 hj) (not_lt.2 (pw_mono (by omega) (by omega) (by omega)))
    · exact le_top

/-- The reciprocal of a power is the power with the mirrored field. -/
theorem one_div_pw {k : ℕ} (hk : k ≤ 252) : Ideal.div 1 (pw (k + 1)) = pw (253 - k) := by
  rw [pw_eq (k := k + 1) (by omega) (by omega), pw_eq (k := 253 - k) (by omega) (by omega)]
  have hp : ((2 : ℝ) ^ (((k + 1 : ℕ) : ℤ) - 127)) ≠ 0 := by positivity
  unfold Ideal.div
  rw [if_neg (by rw [← EReal.coe_zero, EReal.coe_eq_coe_iff]; exact hp), one_mul, ← EReal.coe_inv, EReal.coe_eq_coe_iff, ← zpow_neg]
  congr 1
  push_cast [Nat.cast_sub (show k ≤ 253 by omega)]
  ring

/-- The field 127 is one. -/
theorem pw_127 : pw 127 = 1 := by rw [pw_eq (by omega) (by omega)]; norm_num

/-- The row maximum of finite bf16 values, divided by 448 as the multiplier says, is far below the power at 253. -/
theorem scaled_lt {a : EReal} (ha : a ≤ Ideal.ofBits .bf16 0x7F7F#16) : a * Ideal.ofBits .f32 0x3B124925#32 < pw 253 := by
  have hc := f32_eq 0x3B124925#32 118 0x124925 (by decide) (by decide) (by decide) (by omega) (by omega)
  have hA : Ideal.ofBits .bf16 0x7F7F#16 = ((255 * (2 : ℝ) ^ (120 : ℤ) : ℝ) : EReal) := by
    show Ideal.ieee 8 7 (0x7F7F#16) = _
    have e1 : (0x7F7F#16).extractLsb' 15 1 = 0#1 := by decide
    have e2 : ((0x7F7F#16).extractLsb' 7 8).toNat = 254 := by decide
    have e3 : ((0x7F7F#16).extractLsb' 0 7).toNat = 127 := by decide
    have hb : ((0#1 : BitVec 1) == 1#1) = false := by decide
    unfold Ideal.ieee
    simp only [Nat.reduceAdd, e1, e2, e3, hb]
    norm_num
  rw [hc]
  refine lt_of_le_of_lt (mul_le_mul_of_nonneg_right ha (EReal.coe_nonneg.2 (by positivity))) ?_
  rw [hA, pw_eq (by omega) (by omega), ← EReal.coe_mul, EReal.coe_lt_coe_iff]
  norm_num

/-- The scale of a row whose largest magnitude is `a`. -/
def scale (a : EReal) : EReal := if a = 0 then 1 else pw (field (a * Ideal.ofBits .f32 0x3B124925#32) + 1)

/-- Its reciprocal. -/
def inv (a : EReal) : EReal := if a = 0 then 1 else pw (253 - field (a * Ideal.ofBits .f32 0x3B124925#32))

/-- The exponent of the scale, as the kernel's word. -/
def expW (a : EReal) : BitVec 32 := if a = 0 then 0#32 else BitVec.ofNat 32 (field (a * Ideal.ofBits .f32 0x3B124925#32)) - 126#32

theorem scale_word {a : EReal} : Ideal.ofBits .f32 ((expW a + 127#32) <<< 23#32) = scale a := by
  unfold expW scale
  split
  · exact pw_127
  · have e : ∀ f : ℕ, BitVec.ofNat 32 f - 126#32 + 127#32 = BitVec.ofNat 32 (f + 1) := fun f => by
      rw [BitVec.ofNat_add]; bv_omega
    rw [e]; rfl

theorem inv_word {a : EReal} (ha : a ≤ Ideal.ofBits .bf16 0x7F7F#16) :
    Ideal.ofBits .f32 ((127#32 - expW a) <<< 23#32) = inv a := by
  unfold expW inv
  split
  · exact pw_127
  · have hk := (field_spec (scaled_lt ha)).1
    generalize field (a * Ideal.ofBits .f32 0x3B124925#32) = f at hk ⊢
    have e : 127#32 - (BitVec.ofNat 32 f - 126#32) = BitVec.ofNat 32 (253 - f) := by bv_omega
    rw [e]; rfl

theorem one_div_scale {a : EReal} (ha : a ≤ Ideal.ofBits .bf16 0x7F7F#16) : Ideal.div 1 (scale a) = inv a := by
  unfold scale inv
  split
  · unfold Ideal.div; simp
  · exact one_div_pw (field_spec (scaled_lt ha)).1

/-- The scale is a finite number that is not negative. -/
theorem scale_fin {a : EReal} (ha : a ≤ Ideal.ofBits .bf16 0x7F7F#16) : ∃ r : ℝ, 0 ≤ r ∧ scale a = (r : EReal) := by
  unfold scale
  split
  · exact ⟨1, zero_le_one, rfl⟩
  · have hk := (field_spec (scaled_lt ha)).1
    exact ⟨_, by positivity, pw_eq (by omega) (by omega)⟩

/-- A value clipped to ±448. -/
def clip (v : EReal) : EReal := min (Ideal.ofBits .f32 0x43E00000#32) (max (Ideal.ofBits .f32 0xC3E00000#32) v)

end Cert.Scale

end
-- ==== Proof.Tables.lean ====
/- What the precondition on the tables, the scales and the activations says, read off its printed operations. -/
module

public import proofs.«01_k».proof.Proof.Gen.Pre_block_sparse
public import proofs.«01_k».proof.Proof.Range
public import proofs.«01_k».proof.Proof.Scale
public import Idealize.ShloMosaic.Lib.Pointwise

@[expose] public section

set_option maxRecDepth 16384

noncomputable section

namespace Cert.Tables

open Idealize.ShloMosaic Idealize.ShloMosaic.StableHlo

/-- The number of row starts that are at most `b`. -/
def cnt (W : Fin 55 → ℕ) (b : ℕ) : ℕ := (Finset.univ.filter (fun q : Fin 55 => W q ≤ b)).card

theorem cnt_le (W : Fin 55 → ℕ) (b : ℕ) : cnt W b ≤ 55 := (Finset.card_filter_le _ _).trans (by simp)

/-- With sorted row starts, start `q` is among those at most `b` exactly when it is among the first so many. -/
theorem le_iff (W : Fin 55 → ℕ) (hW : Monotone W) (b : ℕ) (q : Fin 55) : W q ≤ b ↔ q.val < cnt W b := by
  constructor
  · intro h
    have : (Finset.Iic q).card ≤ cnt W b := Finset.card_le_card (fun p hp => by
      simp only [Finset.mem_filter, Finset.mem_univ, true_and]
      exact (hW (Finset.mem_Iic.mp hp)).trans h)
    rw [Fin.card_Iic] at this
    omega
  · intro h
    by_contra hn
    have : cnt W b ≤ (Finset.Iio q).card := Finset.card_le_card (fun p hp => by
      simp only [Finset.mem_filter, Finset.mem_univ, true_and] at hp
      rw [Finset.mem_Iio]
      by_contra hc
      exact hn ((hW (not_lt.mp hc)).trans hp))
    rw [Fin.card_Iio] at this
    omega

/-- The table word of a row start. -/
def st (W1 : IVec ⟨1, ![55]⟩ 32) (q : Fin 55) : ℕ := (W1 (ix1 q)).toNat

/-- The tables, as numbers. -/
structure Sparse (W1 : IVec ⟨1, ![55]⟩ 32) (W2 : IVec ⟨1, ![162]⟩ 32) : Prop where
  mono : Monotone (st W1)
  zero : st W1 0 = 0
  top : st W1 54 ≤ 162
  col : ∀ b : Fin 162, (W2 (ix1 b)).toNat < 20
  uniq : ∀ a b : Fin 162, cnt (st W1) a.val < 55 → cnt (st W1) a.val = cnt (st W1) b.val → W2 (ix1 a) = W2 (ix1 b) → a = b

variable (x : FVec Ideal ⟨2, ![2048, 2560]⟩ .bf16) (W1 : IVec ⟨1, ![55]⟩ 32) (W2 : IVec ⟨1, ![162]⟩ 32) (w : FVec Ideal ⟨3, ![162, 128, 128]⟩ .fp8e4m3) (s : FVec Ideal ⟨1, ![162]⟩ .f32)

open Cert.Pre_block_sparse in
theorem read_zero : (fn (F := Ideal) x W1 W2 w s).1 ix0 = IntOp.cmpi .eq (W1 (ix1 0)) 0#32 := by
  pointwise [fn, fn_part1, fn_part2]

open Cert.Pre_block_sparse in
theorem read_top : (fn (F := Ideal) x W1 W2 w s).2.1 ix0 = IntOp.cmpi .sle (W1 (ix1 54)) 162#32 := by
  pointwise [fn, fn_part1, fn_part2]

open Cert.Pre_block_sparse in
theorem read_mono (q : Fin 54) : (fn (F := Ideal) x W1 W2 w s).2.2.1 (ix1 q) = IntOp.cmpi .sle (W1 (ix1 q.castSucc)) (W1 (ix1 q.succ)) := by
  show IntOp.cmpi .sle (W1 _) (W1 _) = _
  congr 2 <;> funext a <;> apply Fin.ext <;> match a with | ⟨0, _⟩ => (first | exact Nat.zero_add _ | exact Nat.add_comm _ _)

open Cert.Pre_block_sparse in
theorem read_col (b : Fin 162) : (fn (F := Ideal) x W1 W2 w s).2.2.2.1 (ix1 b)
    = IntOp.andi (IntOp.cmpi .sge (W2 (ix1 b)) 0#32) (IntOp.cmpi .slt (W2 (ix1 b)) 20#32) := rfl

open Cert.Pre_block_sparse in
theorem read_scale (b : Fin 162) : (fn (F := Ideal) x W1 W2 w s).2.2.2.2.2.1 (ix1 b)
    = IntOp.andi (Ideal.cmp .oge (s (ix1 b)) (Ideal.ofBits .f32 0#32)) (Ideal.cmp .olt (s (ix1 b)) (Ideal.ofBits .f32 0x7F800000#32)) := rfl

open Cert.Pre_block_sparse in
theorem read_x (r : Fin 2048) (k : Fin 2560) : (fn (F := Ideal) x W1 W2 w s).2.2.2.2.2.2 (ix2 r k)
    = Ideal.cmp .ole (max (x (ix2 r k) : EReal) (-(x (ix2 r k) : EReal))) (Ideal.ofBits .bf16 0x7F7F#16) := rfl

/-- The count of row starts at most `b`, as the programs compute it. -/
def rowVec (hb1 : (⟨1, ![55]⟩ : Shape).BroadcastsInDim ⟨2, ![1, 55]⟩ ![1]) (hb2 : (⟨2, ![1, 55]⟩ : Shape).BroadcastsInDim ⟨2, ![162, 55]⟩ ![0, 1])
    (hb3 : (⟨1, ![162]⟩ : Shape).BroadcastsInDim ⟨2, ![162, 1]⟩ ![0]) (hb4 : (⟨2, ![162, 1]⟩ : Shape).BroadcastsInDim ⟨2, ![162, 55]⟩ ![0, 1])
    (hr : (⟨2, ![162, 55]⟩ : Shape).ReducesTo [1] ⟨1, ![162]⟩) (hu : 0 < (⟨0, ![]⟩ : Shape).numel) (hw : 1 < 32) : IVec ⟨1, ![162]⟩ 32 :=
  Host.reduce IntOp.addi (extui 32 (cmpi .sle (broadcastInDim ⟨2, ![162, 55]⟩ ![0, 1] hb2 (broadcastInDim ⟨2, ![1, 55]⟩ ![1] hb1 W1))
    (broadcastInDim ⟨2, ![162, 55]⟩ ![0, 1] hb4 (broadcastInDim ⟨2, ![162, 1]⟩ ![0] hb3 (iotaInDim ⟨1, ![162]⟩ 32 0)))) hw) (constantI ⟨0, ![]⟩ 32 0#32) hr hu

theorem rowVec_apply (hb1 hb2 hb3 hb4 hr hu hw) (hW : ∀ q, st W1 q ≤ 162) (b : Fin 162) :
    (rowVec W1 hb1 hb2 hb3 hb4 hr hu hw (ix1 b)).toNat = cnt (st W1) b.val := by
  unfold rowVec cnt
  rw [Predicate.toNat_reduce_count_cols (by decide)]
  congr 1
  apply Finset.filter_congr
  intro q _
  show IntOp.cmpi .sle (broadcastInDim _ _ _ _ (Predicate.ij b q)) (broadcastInDim _ _ _ _ (Predicate.ij b q)) = 1#1 ↔ _
  rw [Predicate.bcast_cols, Predicate.bcast_rows, Predicate.iota_apply]
  have hq := hW q
  have e : W1 (Shape.Idx.ofFin q) = W1 (ix1 q) := congrArg W1 (by funext a; match a with | ⟨0, _⟩ => rfl)
  have hb : (BitVec.ofNat 32 b.val).toNat = b.val := by rw [BitVec.toNat_ofNat]; omega
  unfold st at hq ⊢
  rw [e, Predicate.sle_iff_toNat (by omega) (by omega), hb]

open Cert.Pre_block_sparse Cert.Pre_block_sparse.Facts in
/-- No two stored blocks in one place, of the places that exist, from the blocks' numbers, rows and columns. -/
def uniqOf (n row col : IVec ⟨1, ![162]⟩ 32) : IVec ⟨2, ![162, 162]⟩ 1 :=
  ori (cmpi .eq (broadcastInDim S162x162 ![0, 1] bcast_S162x1_S162x162_0_1 (broadcastInDim S162x1 ![0] bcast_S162_S162x1_0 n))
      (broadcastInDim S162x162 ![0, 1] bcast_S1x162_S162x162_0_1 (broadcastInDim S1x162 ![1] bcast_S162_S1x162_1 n)))
    (noti (andi (andi
      (cmpi .eq (broadcastInDim S162x162 ![0, 1] bcast_S162x1_S162x162_0_1 (broadcastInDim S162x1 ![0] bcast_S162_S162x1_0 row))
        (broadcastInDim S162x162 ![0, 1] bcast_S1x162_S162x162_0_1 (broadcastInDim S1x162 ![1] bcast_S162_S1x162_1 row)))
      (cmpi .eq (broadcastInDim S162x162 ![0, 1] bcast_S162x1_S162x162_0_1 (broadcastInDim S162x1 ![0] bcast_S162_S162x1_0 col))
        (broadcastInDim S162x162 ![0, 1] bcast_S1x162_S162x162_0_1 (broadcastInDim S1x162 ![1] bcast_S162_S1x162_1 col))))
      (broadcastInDim S162x162 ![0, 1] bcast_S162x1_S162x162_0_1
        (cmpi .slt (broadcastInDim S162x1 ![0] bcast_S162_S162x1_0 row) (broadcastInDim S162x1 ![] bcast_S_S162x1 (constantI S_ 32 54#32))))))

open Cert.Pre_block_sparse Cert.Pre_block_sparse.Facts in
theorem uniqOf_apply (n row col : IVec ⟨1, ![162]⟩ 32) (a b : Fin 162) : uniqOf n row col (ix2 a b)
    = IntOp.ori (IntOp.cmpi .eq (n (ix1 a)) (n (ix1 b)))
      (~~~ (IntOp.andi (IntOp.andi (IntOp.cmpi .eq (row (ix1 a)) (row (ix1 b))) (IntOp.cmpi .eq (col (ix1 a)) (col (ix1 b))))
        (IntOp.cmpi .slt (row (ix1 a)) 54#32))) := by
  pointwise [uniqOf, noti]

open Cert.Pre_block_sparse Cert.Pre_block_sparse.Facts in
/-- The row of each stored block, as the precondition computes it. -/
def rowPre (W1 : IVec ⟨1, ![55]⟩ 32) : IVec ⟨1, ![162]⟩ 32 :=
  subi (rowVec W1 bcast_S55_S1x55_1 bcast_S1x55_S162x55_0_1 bcast_S162_S162x1_0 bcast_S162x1_S162x55_0_1 reducesTo_S162x55_S162_d1 h_S_ natLt_1_32)
    (broadcastInDim S162 ![] bcast_S_S162 (constantI S_ 32 1#32))

open Cert.Pre_block_sparse in
theorem read_uniq : (fn (F := Ideal) x W1 W2 w s).2.2.2.2.1 = uniqOf (iotaInDim S162 32 0) (rowPre W1) W2 := rfl

theorem rowPre_toNat (hW : ∀ q, st W1 q ≤ 162) (h0 : st W1 0 = 0) (b : Fin 162) : (rowPre W1 (ix1 b)).toNat + 1 = cnt (st W1) b.val := by
  have e := rowVec_apply W1 Cert.Pre_block_sparse.Facts.bcast_S55_S1x55_1 Cert.Pre_block_sparse.Facts.bcast_S1x55_S162x55_0_1 Cert.Pre_block_sparse.Facts.bcast_S162_S162x1_0
    Cert.Pre_block_sparse.Facts.bcast_S162x1_S162x55_0_1 Cert.Pre_block_sparse.Facts.reducesTo_S162x55_S162_d1 Cert.Pre_block_sparse.Facts.h_S_ Cert.Pre_block_sparse.Facts.natLt_1_32 hW b
  have p : 0 < cnt (st W1) b.val := Finset.card_pos.mpr ⟨0, by simp [h0]⟩
  show BitVec.toNat (_ - 1#32) + 1 = _
  rw [BitVec.toNat_sub]
  have l := cnt_le (st W1) b.val
  rw [e]
  show (2 ^ 32 - 1 + _) % 2 ^ 32 + 1 = _
  omega

variable {x W1 W2 w s}

open Cert.Pre_block_sparse in
/-- The precondition, read. -/
theorem of_pre (h : (fn (F := Ideal) x W1 W2 w s).1 = (fun _ => 1#1) ∧ (fn (F := Ideal) x W1 W2 w s).2.1 = (fun _ => 1#1)
      ∧ (fn (F := Ideal) x W1 W2 w s).2.2.1 = (fun _ => 1#1) ∧ (fn (F := Ideal) x W1 W2 w s).2.2.2.1 = (fun _ => 1#1)
      ∧ (fn (F := Ideal) x W1 W2 w s).2.2.2.2.1 = (fun _ => 1#1) ∧ (fn (F := Ideal) x W1 W2 w s).2.2.2.2.2.1 = (fun _ => 1#1)
      ∧ (fn (F := Ideal) x W1 W2 w s).2.2.2.2.2.2 = (fun _ => 1#1)) :
    Sparse W1 W2 ∧ (∀ b : Fin 162, (0 : EReal) ≤ s (ix1 b) ∧ (s (ix1 b) : EReal) ≠ ⊤)
      ∧ (∀ (r : Fin 2048) (k : Fin 2560), max (x (ix2 r k) : EReal) (-(x (ix2 r k) : EReal)) ≤ Ideal.ofBits .bf16 0x7F7F#16) := by
  obtain ⟨h0, h1, h2, h3, h4, h5, h6⟩ := h
  have z : W1 (ix1 0) = 0#32 := Predicate.cmpi_eq_iff.mp ((read_zero x W1 W2 w s).symm.trans (congrFun h0 _))
  have sle : ∀ a b : BitVec 32, IntOp.cmpi .sle a b = 1#1 → a.toInt ≤ b.toInt := by
    intro a b hab
    simpa [IntOp.cmpi, Predicate.ofBool_eq_one_iff, BitVec.sle] using hab
  have t : (W1 (ix1 54)).toInt ≤ 162 := sle _ 162#32 ((read_top x W1 W2 w s).symm.trans (congrFun h1 _))
  have mi : Monotone (fun q : Fin 55 => (W1 (ix1 q)).toInt) := by
    apply Fin.monotone_iff_le_succ.mpr
    intro q
    exact sle _ _ ((read_mono x W1 W2 w s q).symm.trans (congrFun h2 _))
  have lo : ∀ q : Fin 55, 0 ≤ (W1 (ix1 q)).toInt := fun q => by
    have := mi (Fin.zero_le q)
    simp only [z] at this
    simpa using this
  have hi : ∀ q : Fin 55, (W1 (ix1 q)).toInt ≤ 162 := fun q => (mi (Fin.le_last q)).trans t
  have nat : ∀ q : Fin 55, (st W1 q : ℤ) = (W1 (ix1 q)).toInt := fun q => by
    have a := lo q
    have b := hi q
    unfold st
    rw [BitVec.toInt_eq_toNat_cond] at a b ⊢
    have := (W1 (ix1 q)).isLt
    split at a <;> omega
  have le : ∀ q, st W1 q ≤ 162 := fun q => by
    have a := nat q
    have b := hi q
    omega
  have mono : Monotone (st W1) := fun p q hpq => by
    have a := nat p
    have b := nat q
    have c := mi hpq
    simp only at c
    omega
  have zero : st W1 0 = 0 := by unfold st; rw [z]; rfl
  refine ⟨⟨mono, zero, le 54, fun b => ?_, fun a b hlt hab hw => ?_⟩, fun b => ?_, fun r k => ?_⟩
  · have := Cert.Range.and_one ((read_col x W1 W2 w s b).symm.trans (congrFun h3 _))
    exact Cert.Range.lt_of_bits (n := 20#32) (by decide) this.1 this.2
  · have e := ((congrFun (read_uniq x W1 W2 w s) (ix2 a b)).trans (uniqOf_apply _ _ _ a b)).symm.trans (congrFun h4 _)
    have r1 := rowPre_toNat W1 le zero a
    have r2 := rowPre_toNat W1 le zero b
    have er : rowPre W1 (ix1 a) = rowPre W1 (ix1 b) := BitVec.eq_of_toNat_eq (by omega)
    have lt : IntOp.cmpi .slt (rowPre W1 (ix1 b)) 54#32 = 1#1 :=
      (Predicate.slt_iff_toNat (b := 54#32) (by omega) (by decide)).mpr (by show _ < 54; omega)
    rw [er, hw, Predicate.cmpi_eq_iff.mpr rfl, Predicate.cmpi_eq_iff.mpr rfl, lt] at e
    have key : IntOp.cmpi .eq (BitVec.ofNat 32 a.val) (BitVec.ofNat 32 b.val) = 1#1 := by
      change IntOp.ori (IntOp.cmpi .eq (BitVec.ofNat 32 a.val) (BitVec.ofNat 32 b.val)) _ = _ at e
      revert e
      generalize IntOp.cmpi .eq (BitVec.ofNat 32 a.val) (BitVec.ofNat 32 b.val) = v
      revert v
      decide
    have key := congrArg BitVec.toNat (Predicate.cmpi_eq_iff.mp key)
    rw [BitVec.toNat_ofNat, BitVec.toNat_ofNat] at key
    apply Fin.ext
    omega
  · have := Cert.Range.and_one ((read_scale x W1 W2 w s b).symm.trans (congrFun h5 _))
    simp only [Ideal.cmp, Predicate.ofBool_eq_one_iff, decide_eq_true_eq] at this
    rw [Ideal.ofBits_zero_f32, Cert.Scale.inf_eq 0x7F800000#32 (by decide) (by decide) (by decide)] at this
    exact ⟨this.1, this.2.ne⟩
  · have := (read_x x W1 W2 w s r k).symm.trans (congrFun h6 _)
    simpa only [Ideal.cmp, Predicate.ofBool_eq_one_iff, decide_eq_true_eq] using this

end Cert.Tables
end
-- ==== Proof.KernelIdeal.Value.lean ====
module

public import proofs.«01_k».proof.Proof.KernelIdeal.Run
public import Idealize.ShloMosaic.Lib.Pipeline.ValueKit

@[expose] public section

set_option maxRecDepth 16384

noncomputable section

/-! The kernel's three results as functions of its arguments. -/
namespace Cert.KernelIdeal.Body

open Idealize.ShloMosaic Idealize.SL.Sem Cert.KernelIdeal Cert.KernelIdeal.Gen

variable (m : (ℓ : Loc nD τ sig) → Buf (Elt Ideal) ℓ)

/-- Block `t` of 256 rows of the activations. -/
def xBlk (x : Vec Ideal S2048x2560 .bf16) (t : ℕ) : Vec Ideal S256x2560 .bf16 :=
  fun j => x (ix2 (Fin.ofNat 2048 (256 * t + (j 0).val)) (j 1))

theorem idx_row (t : Fin grid0.N) : cc0_transform_0 (grid0.coords t) = ![t.val, 0] ∧ cc0_transform_3 (grid0.coords t) = ![t.val, 0]
    ∧ cc0_transform_4 (grid0.coords t) = ![t.val, 0] ∧ cc0_transform_5 (grid0.coords t) = ![t.val, 0]
    ∧ cc0_transform_1 (grid0.coords t) = ![0, 0, 0] ∧ cc0_transform_2 (grid0.coords t) = ![0] := by
  revert t; decide +kernel

/-- Where an element of a window's block lies in its array. -/
theorem emb0 (hO : Ok m) (t : Fin (cfgM m hO).N) (y : S256x2560.Idx) :
    (((cfgM m hO).win 0).blk t).view.emb y = (ix2 (Fin.ofNat 2048 (256 * t.val + (y 0).val)) (y 1) : S2048x2560.Idx) := by
  have e := (idx_row t).1
  have ht : t.val < 8 := t.isLt
  have h0 : (y 0).val < 256 := (y 0).isLt
  have h1 : (y 1).val < 2560 := (y 1).isLt
  funext a
  apply Fin.ext
  refine (ValueKit.view_emb_slice_whole_unit_val main_arg0 _ _ _ y a).trans ?_
  match a with
  | ⟨0, _⟩ =>
    show cc0_transform_0 (grid0.coords t) 0 * 256 + (y 0).val = (256 * t.val + (y 0).val) % 2048
    rw [e]; show t.val * 256 + (y 0).val = _; omega
  | ⟨1, _⟩ =>
    show cc0_transform_0 (grid0.coords t) 1 * 2560 + (y 1).val = (y 1).val
    rw [e]; show 0 * 2560 + (y 1).val = _; omega

theorem xblk_eq (hO : Ok m) (c : Dev nD) (t : Fin (cfgM m hO).N) : xblk m hO c t = xBlk (m ((c.tc : Thread nD τ).loc main_arg0)) t.val := by
  funext y
  unfold xblk iblk xBlk
  blk_simp
  exact congrArg (m ((c.tc : Thread nD τ).loc main_arg0)) (emb0 m hO t y)

theorem wblk_eq (hO : Ok m) (c : Dev nD) (t : Fin (cfgM m hO).N) : wblk m hO c t = m ((c.tc : Thread nD τ).loc main_arg3) := by
  have e := (idx_row t).2.2.2.2.1
  funext y
  unfold wblk iblk
  blk_simp
  show m ((c.tc : Thread nD τ).loc main_arg3) _ = _
  congr 1
  funext a
  apply Fin.ext
  refine (ValueKit.view_emb_slice_whole_unit_val main_arg3 _ _ _ y a).trans ?_
  show cc0_transform_1 (grid0.coords t) a * S162x128x128.size a + (y a).val = (y a).val
  rw [e]
  match a with
  | ⟨0, _⟩ => exact (congrArg (· + (y 0).val) (Nat.zero_mul _)).trans (Nat.zero_add _)
  | ⟨1, _⟩ => exact (congrArg (· + (y 1).val) (Nat.zero_mul _)).trans (Nat.zero_add _)
  | ⟨2, _⟩ => exact (congrArg (· + (y 2).val) (Nat.zero_mul _)).trans (Nat.zero_add _)

theorem sblk_eq (hO : Ok m) (c : Dev nD) (t : Fin (cfgM m hO).N) : sblk m hO c t = m ((c.tc : Thread nD τ).loc main_arg4) := by
  have e := (idx_row t).2.2.2.2.2
  funext y
  unfold sblk iblk
  blk_simp
  show m ((c.tc : Thread nD τ).loc main_arg4) _ = _
  congr 1
  funext a
  apply Fin.ext
  refine (ValueKit.view_emb_slice_whole_unit_val main_arg4 _ _ _ y a).trans ?_
  show cc0_transform_2 (grid0.coords t) a * S162.size a + (y a).val = (y a).val
  rw [e]
  match a with
  | ⟨0, _⟩ => exact (congrArg (· + (y 0).val) (Nat.zero_mul _)).trans (Nat.zero_add _)

/-- The codes of all rows. -/
def outC (x : Vec Ideal S2048x2560 .bf16) : Vec Ideal S2048x2560 .fp8e4m3 := fun i =>
  codesB (xBlk x ((i 0).val / 256)) (ix2 (Fin.ofNat 256 (i 0).val) (i 1))
/-- The scales of all rows. -/
def outS (x : Vec Ideal S2048x2560 .bf16) : Vec Ideal S2048x1 .f32 := fun i =>
  xsB (xBlk x ((i 0).val / 256)) (ix2 (Fin.ofNat 256 (i 0).val) (i 1))
/-- The output of all rows. -/
def outY (x : Vec Ideal S2048x2560 .bf16) (w : Vec Ideal S162x128x128 .fp8e4m3) (sc : Vec Ideal S162 .f32) (W1 : Vec Ideal S55 .i32)
    (W2 : Vec Ideal S162 .i32) : Vec Ideal S2048x6912 .bf16 := fun i =>
  yB (xBlk x ((i 0).val / 256)) w sc W1 W2 (ix2 (Fin.ofNat 256 (i 0).val) (i 1))

theorem emb3 (hO : Ok m) (t : Fin (cfgM m hO).N) (y : S256x6912.Idx) :
    (((cfgM m hO).win 3).blk t).view.emb y = (ix2 (Fin.ofNat 2048 (256 * t.val + (y 0).val)) (y 1) : S2048x6912.Idx) := by
  have e := (idx_row t).2.1
  have ht : t.val < 8 := t.isLt
  have h0 : (y 0).val < 256 := (y 0).isLt
  funext a
  apply Fin.ext
  refine (ValueKit.view_emb_slice_whole_unit_val main_v0_0 _ _ _ y a).trans ?_
  match a with
  | ⟨0, _⟩ =>
    show cc0_transform_3 (grid0.coords t) 0 * 256 + (y 0).val = (256 * t.val + (y 0).val) % 2048
    rw [e]; show t.val * 256 + (y 0).val = _; omega
  | ⟨1, _⟩ =>
    show cc0_transform_3 (grid0.coords t) 1 * 6912 + (y 1).val = (y 1).val
    rw [e]; show 0 * 6912 + (y 1).val = _; omega

theorem cover3 (hO : Ok m) (i : S2048x6912.Idx) : ∃ t : Fin (cfgM m hO).N, ∃ y : S256x6912.Idx, (((cfgM m hO).win 3).blk t).view.emb y = i := by
  have h0 : (i 0).val < 2048 := (i 0).isLt
  refine ⟨(⟨(i 0).val / 256, by omega⟩ : Fin 8), ix2 (⟨(i 0).val % 256, by omega⟩ : Fin 256) (i 1), ?_⟩
  refine (emb3 m hO _ _).trans ?_
  funext a
  apply Fin.ext
  match a with
  | ⟨0, _⟩ => show (256 * ((i 0).val / 256) + (i 0).val % 256) % 2048 = (i 0).val; omega
  | ⟨1, _⟩ => rfl

theorem final3 (hO : Ok m) (c : Dev nD) : (dats m hO 0 c).arrAt 3 (cfgM m hO).N = outY (m ((c.tc : Thread nD τ).loc main_arg0)) (m ((c.tc : Thread nD τ).loc main_arg3)) (m ((c.tc : Thread nD τ).loc main_arg4)) (tab1 m) (tab2 m) := by
  have key : ∀ (t : Fin (cfgM m hO).N) (y : S256x6912.Idx), yB (xblk m hO c t) (m ((c.tc : Thread nD τ).loc main_arg3)) (m ((c.tc : Thread nD τ).loc main_arg4)) (tab1 m) (tab2 m) y = outY (m ((c.tc : Thread nD τ).loc main_arg0)) (m ((c.tc : Thread nD τ).loc main_arg3)) (m ((c.tc : Thread nD τ).loc main_arg4)) (tab1 m) (tab2 m) ((((cfgM m hO).win 3).blk t).view.emb y) := by
    intro t y
    have ht : t.val < 8 := t.isLt
    have h0 : (y 0).val < 256 := (y 0).isLt
    refine Eq.trans ?_ (congrArg (outY (m ((c.tc : Thread nD τ).loc main_arg0)) (m ((c.tc : Thread nD τ).loc main_arg3)) (m ((c.tc : Thread nD τ).loc main_arg4)) (tab1 m) (tab2 m)) (emb3 m hO t y)).symm
    have e1 : (256 * t.val + (y 0).val) % 2048 / 256 = t.val := by omega
    have e2 : (256 * t.val + (y 0).val) % 2048 % 256 = (y 0).val := by omega
    show _ = yB (xBlk (m ((c.tc : Thread nD τ).loc main_arg0)) ((256 * t.val + (y 0).val) % 2048 / 256)) (m ((c.tc : Thread nD τ).loc main_arg3)) (m ((c.tc : Thread nD τ).loc main_arg4)) (tab1 m) (tab2 m)
      (ix2 (Fin.ofNat 256 ((256 * t.val + (y 0).val) % 2048)) (y 1))
    rw [xblk_eq, e1]
    congr 1
    funext a
    apply Fin.ext
    match a with
    | ⟨0, _⟩ => exact e2.symm
    | ⟨1, _⟩ => rfl
  refine (dats m hO 0 c).arrAt_eq_of_emb 3 _ (fun t hf y => ?_) (fun i => ?_)
  · refine (congrFun (after0_3 m hO c t) y).trans ?_
    rw [wblk_eq, sblk_eq]
    exact key t y
  · obtain ⟨t, y, hy⟩ := cover3 m hO i
    refine ⟨t, flush0_3 _ t, ?_⟩
    rw [← hy]
    exact View.emb_mem_set _ y

theorem emb4 (hO : Ok m) (t : Fin (cfgM m hO).N) (y : S256x2560.Idx) :
    (((cfgM m hO).win 4).blk t).view.emb y = (ix2 (Fin.ofNat 2048 (256 * t.val + (y 0).val)) (y 1) : S2048x2560.Idx) := by
  have e := (idx_row t).2.2.1
  have ht : t.val < 8 := t.isLt
  have h0 : (y 0).val < 256 := (y 0).isLt
  funext a
  apply Fin.ext
  refine (ValueKit.view_emb_slice_whole_unit_val main_v0_1 _ _ _ y a).trans ?_
  match a with
  | ⟨0, _⟩ =>
    show cc0_transform_4 (grid0.coords t) 0 * 256 + (y 0).val = (256 * t.val + (y 0).val) % 2048
    rw [e]; show t.val * 256 + (y 0).val = _; omega
  | ⟨1, _⟩ =>
    show cc0_transform_4 (grid0.coords t) 1 * 2560 + (y 1).val = (y 1).val
    rw [e]; show 0 * 2560 + (y 1).val = _; omega

theorem cover4 (hO : Ok m) (i : S2048x2560.Idx) : ∃ t : Fin (cfgM m hO).N, ∃ y : S256x2560.Idx, (((cfgM m hO).win 4).blk t).view.emb y = i := by
  have h0 : (i 0).val < 2048 := (i 0).isLt
  refine ⟨(⟨(i 0).val / 256, by omega⟩ : Fin 8), ix2 (⟨(i 0).val % 256, by omega⟩ : Fin 256) (i 1), ?_⟩
  refine (emb4 m hO _ _).trans ?_
  funext a
  apply Fin.ext
  match a with
  | ⟨0, _⟩ => show (256 * ((i 0).val / 256) + (i 0).val % 256) % 2048 = (i 0).val; omega
  | ⟨1, _⟩ => rfl

theorem final4 (hO : Ok m) (c : Dev nD) : (dats m hO 0 c).arrAt 4 (cfgM m hO).N = outC (m ((c.tc : Thread nD τ).loc main_arg0)) := by
  have key : ∀ (t : Fin (cfgM m hO).N) (y : S256x2560.Idx), codesB (xblk m hO c t) y = outC (m ((c.tc : Thread nD τ).loc main_arg0)) ((((cfgM m hO).win 4).blk t).view.emb y) := by
    intro t y
    have ht : t.val < 8 := t.isLt
    have h0 : (y 0).val < 256 := (y 0).isLt
    refine Eq.trans ?_ (congrArg (outC (m ((c.tc : Thread nD τ).loc main_arg0))) (emb4 m hO t y)).symm
    have e1 : (256 * t.val + (y 0).val) % 2048 / 256 = t.val := by omega
    have e2 : (256 * t.val + (y 0).val) % 2048 % 256 = (y 0).val := by omega
    show _ = codesB (xBlk (m ((c.tc : Thread nD τ).loc main_arg0)) ((256 * t.val + (y 0).val) % 2048 / 256))
      (ix2 (Fin.ofNat 256 ((256 * t.val + (y 0).val) % 2048)) (y 1))
    rw [xblk_eq, e1]
    congr 1
    funext a
    apply Fin.ext
    match a with
    | ⟨0, _⟩ => exact e2.symm
    | ⟨1, _⟩ => rfl
  refine (dats m hO 0 c).arrAt_eq_of_emb 4 _ (fun t hf y => ?_) (fun i => ?_)
  · refine (congrFun (after0_4 m hO c t) y).trans ?_
    exact key t y
  · obtain ⟨t, y, hy⟩ := cover4 m hO i
    refine ⟨t, flush0_4 _ t, ?_⟩
    rw [← hy]
    exact View.emb_mem_set _ y

theorem emb5 (hO : Ok m) (t : Fin (cfgM m hO).N) (y : S256x1.Idx) :
    (((cfgM m hO).win 5).blk t).view.emb y = (ix2 (Fin.ofNat 2048 (256 * t.val + (y 0).val)) (y 1) : S2048x1.Idx) := by
  have e := (idx_row t).2.2.2.1
  have ht : t.val < 8 := t.isLt
  have h0 : (y 0).val < 256 := (y 0).isLt
  funext a
  apply Fin.ext
  refine (ValueKit.view_emb_slice_whole_unit_val main_v0_2 _ _ _ y a).trans ?_
  match a with
  | ⟨0, _⟩ =>
    show cc0_transform_5 (grid0.coords t) 0 * 256 + (y 0).val = (256 * t.val + (y 0).val) % 2048
    rw [e]; show t.val * 256 + (y 0).val = _; omega
  | ⟨1, _⟩ =>
    show cc0_transform_5 (grid0.coords t) 1 * 1 + (y 1).val = (y 1).val
    rw [e]; show 0 * 1 + (y 1).val = _; omega

theorem cover5 (hO : Ok m) (i : S2048x1.Idx) : ∃ t : Fin (cfgM m hO).N, ∃ y : S256x1.Idx, (((cfgM m hO).win 5).blk t).view.emb y = i := by
  have h0 : (i 0).val < 2048 := (i 0).isLt
  refine ⟨(⟨(i 0).val / 256, by omega⟩ : Fin 8), ix2 (⟨(i 0).val % 256, by omega⟩ : Fin 256) (i 1), ?_⟩
  refine (emb5 m hO _ _).trans ?_
  funext a
  apply Fin.ext
  match a with
  | ⟨0, _⟩ => show (256 * ((i 0).val / 256) + (i 0).val % 256) % 2048 = (i 0).val; omega
  | ⟨1, _⟩ => rfl

theorem final5 (hO : Ok m) (c : Dev nD) : (dats m hO 0 c).arrAt 5 (cfgM m hO).N = outS (m ((c.tc : Thread nD τ).loc main_arg0)) := by
  have key : ∀ (t : Fin (cfgM m hO).N) (y : S256x1.Idx), xsB (xblk m hO c t) y = outS (m ((c.tc : Thread nD τ).loc main_arg0)) ((((cfgM m hO).win 5).blk t).view.emb y) := by
    intro t y
    have ht : t.val < 8 := t.isLt
    have h0 : (y 0).val < 256 := (y 0).isLt
    refine Eq.trans ?_ (congrArg (outS (m ((c.tc : Thread nD τ).loc main_arg0))) (emb5 m hO t y)).symm
    have e1 : (256 * t.val + (y 0).val) % 2048 / 256 = t.val := by omega
    have e2 : (256 * t.val + (y 0).val) % 2048 % 256 = (y 0).val := by omega
    show _ = xsB (xBlk (m ((c.tc : Thread nD τ).loc main_arg0)) ((256 * t.val + (y 0).val) % 2048 / 256))
      (ix2 (Fin.ofNat 256 ((256 * t.val + (y 0).val) % 2048)) (y 1))
    rw [xblk_eq, e1]
    congr 1
    funext a
    apply Fin.ext
    match a with
    | ⟨0, _⟩ => exact e2.symm
    | ⟨1, _⟩ => rfl
  refine (dats m hO 0 c).arrAt_eq_of_emb 5 _ (fun t hf y => ?_) (fun i => ?_)
  · refine (congrFun (after0_5 m hO c t) y).trans ?_
    exact key t y
  · obtain ⟨t, y, hy⟩ := cover5 m hO i
    refine ⟨t, flush0_5 _ t, ?_⟩
    rw [← hy]
    exact View.emb_mem_set _ y

end Cert.KernelIdeal.Body

end
-- ==== Proof.KernelIdeal.Quant.lean ====
module

public import proofs.«01_k».proof.Proof.KernelIdeal.Body
public import proofs.«01_k».proof.Proof.Scale
public import Idealize.ShloMosaic.Lib.Pointwise

@[expose] public section

set_option maxRecDepth 16384

noncomputable section

/-! The kernel's quantiser on a block of rows, read at an element. -/
namespace Cert.KernelIdeal.Quant

open Idealize.ShloMosaic Cert.KernelIdeal Cert.KernelIdeal.Gen Cert.Scale
open Cert.KernelIdeal.Body (expo xsB codesB)

/-- The largest magnitude of a row of the block. -/
def rowA (x : Vec Ideal S256x2560 .bf16) (r : Fin 256) : EReal :=
  Finset.univ.fold max (Ideal.ofBits .f32 0xFF800000#32) fun k : Fin 2560 => max (x (ix2 r k) : EReal) (-(x (ix2 r k) : EReal))

theorem pay8_apply (x : Vec Ideal S256x2560 .bf16) (r : Fin 256) : k0_pay8 x (ix2 r 0) = rowA x r := by
  unfold rowA
  pointwise [k0_pay8, k0_pay7]
  rfl

theorem pay9_apply (x : Vec Ideal S256x2560 .bf16) (r : Fin 256) :
    k0_pay9 x (ix2 r 0) = rowA x r * Ideal.ofBits .f32 0x3B124925#32 := by
  rw [← pay8_apply]
  pointwise [k0_pay9]

/-- One step of the kernel's search, on the column of rows. -/
def stepV (v : FVec Ideal S256x1 .f32) (s : BitVec 32) (x : IVec S256x1 32) : IVec S256x1 32 :=
  select (cmpf .oge v (bitcastToFloat .f32 (shli (addi x (broadcast S256x1 s)) (broadcast S256x1 23#32)))) (addi x (broadcast S256x1 s)) x

theorem stepV_apply (v : FVec Ideal S256x1 .f32) (s : BitVec 32) (x : IVec S256x1 32) (i : S256x1.Idx) :
    stepV v s x i = if Ideal.ofBits .f32 ((x i + s) <<< 23#32) ≤ v i then x i + s else x i := by
  unfold stepV
  pointwise
  rfl

theorem stepV_ofNat (v : FVec Ideal S256x1 .f32) (n k : ℕ) (x : IVec S256x1 32) (i : S256x1.Idx) (h : x i = BitVec.ofNat 32 k) :
    stepV v (BitVec.ofNat 32 n) x i = BitVec.ofNat 32 (stepK (v i) n k) := by
  rw [stepV_apply, h, ← BitVec.ofNat_add]
  unfold stepK pw
  split <;> rfl

theorem pay11_eq (x : Vec Ideal S256x2560 .bf16) :
    k0_pay11 x = stepV (k0_pay9 x) 32#32 (stepV (k0_pay9 x) 64#32 (stepV (k0_pay9 x) 128#32 (broadcast S256x1 0#32))) := rfl

theorem pay13_eq (v : FVec Ideal S256x1 .f32) (z : IVec S256x1 1) (k : IVec S256x1 32) :
    k0_pay13 v z k (bitcastToFloat .f32 (shli (addi k (broadcast S256x1 16#32)) (broadcast S256x1 23#32)))
      = select z (broadcast S256x1 0#32)
          (subi (stepV v 1#32 (stepV v 2#32 (stepV v 4#32 (stepV v 8#32 (stepV v 16#32 k))))) (broadcast S256x1 126#32)) := rfl

theorem expo_eq (x : Vec Ideal S256x2560 .bf16) :
    expo x = select (k0_pay10 x) (broadcast S256x1 0#32)
      (subi (stepV (k0_pay9 x) 1#32 (stepV (k0_pay9 x) 2#32 (stepV (k0_pay9 x) 4#32 (stepV (k0_pay9 x) 8#32 (stepV (k0_pay9 x) 16#32 (k0_pay11 x))))))
        (broadcast S256x1 126#32)) := pay13_eq _ _ _

theorem field_apply (x : Vec Ideal S256x2560 .bf16) (i : S256x1.Idx) :
    stepV (k0_pay9 x) 1#32 (stepV (k0_pay9 x) 2#32 (stepV (k0_pay9 x) 4#32 (stepV (k0_pay9 x) 8#32 (stepV (k0_pay9 x) 16#32 (k0_pay11 x))))) i
      = BitVec.ofNat 32 (field (k0_pay9 x i)) := by
  rw [pay11_eq]
  unfold field
  exact stepV_ofNat _ 1 _ _ _ (stepV_ofNat _ 2 _ _ _ (stepV_ofNat _ 4 _ _ _ (stepV_ofNat _ 8 _ _ _ (stepV_ofNat _ 16 _ _ _ (stepV_ofNat _ 32 _ _ _
    (stepV_ofNat _ 64 _ _ _ (stepV_ofNat _ 128 0 _ _ rfl)))))))

theorem zero_select (a : FVec Ideal S256x1 .f32) (e : IVec S256x1 32) (i : S256x1.Idx) :
    select (cmpf .oeq a (broadcast S256x1 (Scalar.ofBits .f32 0x00000000#32))) (broadcast S256x1 0#32) (subi e (broadcast S256x1 126#32)) i
      = if a i = 0 then 0#32 else e i - 126#32 := by
  pointwise
  rfl

/-- The exponent word of a row. -/
theorem expo_apply (x : Vec Ideal S256x2560 .bf16) (r : Fin 256) : expo x (ix2 r 0) = expW (rowA x r) := by
  rw [expo_eq]
  have h := zero_select (k0_pay8 x) (stepV (k0_pay9 x) 1#32 (stepV (k0_pay9 x) 2#32 (stepV (k0_pay9 x) 4#32 (stepV (k0_pay9 x) 8#32
    (stepV (k0_pay9 x) 16#32 (k0_pay11 x)))))) (ix2 r 0)
  rw [field_apply, pay8_apply, pay9_apply] at h
  exact h

theorem shli23 (w : BitVec 32) : IntOp.shli .vector w 23#32 = w <<< 23#32 := rfl

theorem pay1_apply (e : IVec S256x1 32) (i : S256x1.Idx) :
    k0_pay1 (F := Ideal) e 127#32 i = Ideal.ofBits .f32 ((e i + 127#32) <<< 23#32) := by
  pointwise [k0_pay1]
  simp only [shli23, IntOp.addi, IntOp.subi]

theorem pay2_apply (x : FVec Ideal S256x2560 .f32) (e : IVec S256x1 32) (r : Fin 256) (k : Fin 2560) :
    k0_pay2 x e (ix2 r k) = clip (x (ix2 r k) * Ideal.ofBits .f32 ((127#32 - e (ix2 r 0)) <<< 23#32)) := by
  unfold clip
  pointwise [k0_pay2]
  simp only [shli23, IntOp.addi, IntOp.subi]

theorem pay6_apply (e : IVec S256x1 32) (a : Vec Ideal S256x128 .f32) (r : Fin 256) (k : Fin 128) :
    k0_pay6 (F := Ideal) e 127#32 a (ix2 r k) = a (ix2 r k) * Ideal.ofBits .f32 ((e (ix2 r 0) + 127#32) <<< 23#32) := by
  pointwise [k0_pay6, k0_pay1]
  simp only [shli23, IntOp.addi, IntOp.subi]

/-- The scale of a row. -/
theorem xsB_apply (x : Vec Ideal S256x2560 .bf16) (r : Fin 256) : xsB x (ix2 r 0) = scale (rowA x r) := by
  unfold xsB
  rw [pay1_apply, expo_apply, scale_word]

/-- A code of a row. -/
theorem codesB_apply (x : Vec Ideal S256x2560 .bf16) (r : Fin 256) (k : Fin 2560) (ha : rowA x r ≤ Ideal.ofBits .bf16 0x7F7F#16) :
    codesB x (ix2 r k) = clip (x (ix2 r k) * inv (rowA x r)) := by
  unfold codesB
  rw [pay2_apply, expo_apply, inv_word ha]
  rfl

theorem pay4_apply (q : Vec Ideal S256x128 .fp8e4m3) (w : Vec Ideal S1x128x128 .fp8e4m3) (a : Vec Ideal S256x128 .f32) (s : Elt Ideal .f32)
    (r : Fin 256) (k : Fin 128) :
    k0_pay4 q w a s (ix2 r k) = (a (ix2 r k) + (∑ l : Fin 128, q (ix2 r l) * w (ix3 0 k l)) * s : EReal) := by
  pointwise [k0_pay4]

theorem pay3_apply (r : Fin 256) (k : Fin 128) : k0_pay3 (F := Ideal) (ix2 r k) = (0 : EReal) := by
  pointwise [k0_pay3]

end Cert.KernelIdeal.Quant

end
-- ==== Proof.ReferenceIdeal.Quant.lean ====
module

public import proofs.«01_k».proof.Proof.Gen.ReferenceIdeal.Skeleton
public import proofs.«01_k».proof.Proof.Scale
public import Idealize.ShloMosaic.Lib.Pointwise

@[expose] public section

set_option maxRecDepth 16384

noncomputable section

/-! The reference's quantiser, read at an element. -/
namespace Cert.ReferenceIdeal.Quant

open Idealize.ShloMosaic Cert.ReferenceIdeal Cert.ReferenceIdeal.Gen Cert.Scale

/-- The codes, from the widened rows and the scales. -/
def codesOf (x : FVec Ideal S2048x2560 .f32) (s : FVec Ideal S2048x1 .f32) : FVec Ideal S2048x2560 .fp8e4m3 :=
  truncf .fp8e4m3 (minimumf (broadcast S2048x2560 (Scalar.ofBits .f32 0x43E00000#32)) (maximumf (broadcast S2048x2560 (Scalar.ofBits .f32 0xC3E00000#32))
    (mulf x (broadcastTo S2048x2560 (divf (broadcast S2048x1 (Scalar.ofBits .f32 0x3F800000#32)) s) broadcasts_S2048x1_S2048x2560)))) bitsLt_fp8e4m3_f32

theorem pay4_eq (x : Vec Ideal S2048x2560 .bf16) : k0_pay4 x = codesOf (k0_pay2 x) (k0_pay3 x) := rfl

theorem codesOf_apply (x : FVec Ideal S2048x2560 .f32) (s : FVec Ideal S2048x1 .f32) (r : Fin 2048) (k : Fin 2560) :
    codesOf x s (ix2 r k) = clip (x (ix2 r k) * Ideal.div 1 (s (ix2 r 0))) := by
  unfold clip
  pointwise [codesOf]

/-- A row's maximum. -/
def rowMax (u : FVec Ideal S2048x2560 .f32) : FVec Ideal S2048x1 .f32 :=
  shapeCast S2048x1 (multiReduction .maximumf [1] S2048 u 0xFF800000#32 reduces_S2048x2560_S2048 (.inl rfl) rfl) shapeCasts_S2048_S2048x1

theorem rowMax_apply (u : FVec Ideal S2048x2560 .f32) (r : Fin 2048) :
    rowMax u (ix2 r 0) = Finset.univ.fold max (Ideal.ofBits .f32 0xFF800000#32) fun k => u (ix2 r k) := by
  pointwise [rowMax]

/-- The powers of two that are normal float32 numbers, in a row. -/
def powers : FVec Ideal S1x254 .f32 :=
  bitcastToFloat .f32 (shli (addi (iota .tc S1x254 32 [1] iota_S1x254_d1_w32) (broadcast S1x254 1#32)) (broadcast S1x254 23#32))

theorem powers_apply (k : Fin 254) : powers (ix2 0 k) = pw (k.val + 1) := by
  unfold pw
  rw [BitVec.ofNat_add]
  pointwise [powers]
  rfl

/-- The powers above the scaled maximum, the others at infinity. -/
def candidates (a : FVec Ideal S2048x1 .f32) (p : FVec Ideal S1x254 .f32) : FVec Ideal S2048x254 .f32 :=
  select (cmpf .olt (broadcastTo S2048x254 (mulf a (broadcast S2048x1 (Scalar.ofBits .f32 0x3B124925#32))) broadcasts_S2048x1_S2048x254)
      (broadcastTo S2048x254 p broadcasts_S1x254_S2048x254))
    (broadcastTo S2048x254 (shapeCast S1x254 p shapeCasts_S1x254_S1x254) broadcasts_S1x254_S2048x254)
    (broadcast S2048x254 (Scalar.ofBits .f32 0x7F800000#32))

theorem candidates_apply (a : FVec Ideal S2048x1 .f32) (p : FVec Ideal S1x254 .f32) (r : Fin 2048) (k : Fin 254) :
    candidates a p (ix2 r k)
      = if a (ix2 r 0) * Ideal.ofBits .f32 0x3B124925#32 < p (ix2 0 k) then p (ix2 0 k) else Ideal.ofBits .f32 0x7F800000#32 := by
  pointwise [candidates]

/-- A row's minimum. -/
def rowMin (u : FVec Ideal S2048x254 .f32) : FVec Ideal S2048x1 .f32 :=
  shapeCast S2048x1 (multiReduction .minimumf [1] S2048 u 0x7F800000#32 reduces_S2048x254_S2048 (.inl rfl) rfl) shapeCasts_S2048_S2048x1

theorem rowMin_apply (u : FVec Ideal S2048x254 .f32) (r : Fin 2048) :
    rowMin u (ix2 r 0) = Finset.univ.fold min (Ideal.ofBits .f32 0x7F800000#32) fun k => u (ix2 r k) := by
  pointwise [rowMin]

theorem pay3_eq (x : Vec Ideal S2048x2560 .bf16) : k0_pay3 x =
    select (cmpf .oeq (rowMax (absf (k0_pay2 x))) (broadcast S2048x1 (Scalar.ofBits .f32 0x00000000#32)))
      (broadcast S2048x1 (Scalar.ofBits .f32 0x3F800000#32)) (rowMin (candidates (rowMax (absf (k0_pay2 x))) powers)) := rfl

theorem sel_apply (a b : FVec Ideal S2048x1 .f32) (r : Fin 2048) :
    select (cmpf .oeq a (broadcast S2048x1 (Scalar.ofBits .f32 0x00000000#32))) (broadcast S2048x1 (Scalar.ofBits .f32 0x3F800000#32)) b (ix2 r 0)
      = if a (ix2 r 0) = 0 then 1 else b (ix2 r 0) := by
  pointwise

/-- The largest magnitude of a row. -/
def rowA (x : Vec Ideal S2048x2560 .bf16) (r : Fin 2048) : EReal :=
  Finset.univ.fold max (Ideal.ofBits .f32 0xFF800000#32) fun k : Fin 2560 => max (x (ix2 r k) : EReal) (-(x (ix2 r k) : EReal))

theorem rowMax_abs (x : Vec Ideal S2048x2560 .bf16) (r : Fin 2048) : rowMax (absf (k0_pay2 x)) (ix2 r 0) = rowA x r :=
  rowMax_apply _ r

theorem top_word : Ideal.ofBits .f32 0x7F800000#32 = ⊤ := inf_eq _ (by decide) (by decide) (by decide)

/-- The scale of a row. -/
theorem scale_apply (x : Vec Ideal S2048x2560 .bf16) (r : Fin 2048) (ha : rowA x r ≤ Ideal.ofBits .bf16 0x7F7F#16) :
    k0_pay3 x (ix2 r 0) = scale (rowA x r) := by
  rw [pay3_eq, sel_apply, rowMin_apply, rowMax_abs, scale]
  congr 1
  rw [← least (scaled_lt ha), top_word]
  congr 1
  funext k
  rw [candidates_apply, powers_apply, rowMax_abs, top_word]

/-- A code of a row. -/
theorem codes_apply (x : Vec Ideal S2048x2560 .bf16) (r : Fin 2048) (k : Fin 2560) (ha : rowA x r ≤ Ideal.ofBits .bf16 0x7F7F#16) :
    k0_pay4 x (ix2 r k) = clip (x (ix2 r k) * inv (rowA x r)) := by
  rw [pay4_eq, codesOf_apply, scale_apply x r ha, one_div_scale ha]
  rfl

end Cert.ReferenceIdeal.Quant

end
-- ==== Proof.ReferenceIdeal.Value.lean ====
/- The reference's results as terms of its arguments. -/
module

public import proofs.«01_k».proof.Proof.Gen.ReferenceIdeal.Frame
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Value

open Idealize.ShloMosaic Idealize.SL.Sem Cert.ReferenceIdeal Cert.ReferenceIdeal.Facts Cert.ReferenceIdeal.Gen

/-- The block row of each stored block, plus one. -/
def countOf (W1 : IVec S55 32) : IVec S162 32 :=
  Host.reduce IntOp.addi (extui 32 (cmpi .sle (broadcastInDim S162x55 ![0, 1] bcast_S1x55_S162x55_0_1 (broadcastInDim S1x55 ![1] bcast_S55_S1x55_1 W1))
    (broadcastInDim S162x55 ![0, 1] bcast_S162x1_S162x55_0_1 (broadcastInDim S162x1 ![0] bcast_S162_S162x1_0 (iotaInDim S162 32 0)))) natLt_1_32)
    (constantI S_ 32 0#32) reducesTo_S162x55_S162_d1 h_S_

/-- The block row of each stored block. -/
def rowOf (W1 : IVec S55 32) : IVec S162 32 := subi (countOf W1) (broadcastInDim S162 ![] bcast_S_S162 (constantI S_ 32 1#32))

/-- An index counted from the end where it is negative. -/
def wrap (n : BitVec 32) (v : IVec S162 32) : IVec S162 32 :=
  select (cmpi .slt v (broadcastInDim S162 ![] bcast_S_S162 (constantI S_ 32 0#32))) (addi v (broadcastInDim S162 ![] bcast_S_S162 (constantI S_ 32 n))) v

/-- Where each stored block goes. -/
def placeOf (r c : IVec S162 32) : IVec S162x2 32 :=
  concatenate S162x2 1 [⟨S162x1, broadcastInDim S162x1 ![0] bcast_S162_S162x1_0 r⟩, ⟨S162x1, broadcastInDim S162x1 ![0] bcast_S162_S162x1_0 c⟩] concatenates_S162x1_S162x1_S162x2_d1

/-- The stored blocks, scaled. -/
def scaledOf (wb : FVec Ideal S162x128x128 .bf16) (sc : FVec Ideal S162 .f32) : FVec Ideal S162x128x128 .bf16 :=
  mulf wb (broadcastInDim S162x128x128 ![0, 1, 2] bcast_S162x1x1_S162x128x128_0_1_2 (broadcastInDim S162x1x1 ![0] bcast_S162_S162x1x1_0 (truncf .bf16 sc bitsLt_bf16_f32)))

/-- The dense weights, in blocks. -/
def denseOf (p : IVec S162x2 32) (u : FVec Ideal S162x128x128 .bf16) : FVec Ideal S54x128x20x128 .bf16 :=
  Host.scatter scatter_S54x128x20x128_S162x2_S162x128x128_12_02_02_1 (fun _ b => b)
    (broadcastInDim S54x128x20x128 ![] bcast_S_S54x128x20x128 (constant S_ .bf16 0x0000#16)) p u

/-- The dense product, scaled per token. -/
def prodOf (cb : FVec Ideal S2048x2560 .bf16) (xs : FVec Ideal S2048x1 .f32) (W : FVec Ideal S54x128x20x128 .bf16) : FVec Ideal S2048x6912 .bf16 :=
  truncf .bf16 (mulf (Host.dotGeneral dot_S2048x2560_S6912x2560_S2048x6912_1_1_0_0_n_n none cb (shapeCast S6912x2560 W shapeCasts_S54x128x20x128_S6912x2560))
    (broadcastInDim S2048x6912 ![0, 1] bcast_S2048x1_S2048x6912_0_1 xs)) bitsLt_bf16_f32

/-- The output. -/
def outY (x : FVec Ideal S2048x2560 .bf16) (W1 : IVec S55 32) (W2 : IVec S162 32) (w : FVec Ideal S162x128x128 .fp8e4m3) (sc : FVec Ideal S162 .f32) :
    FVec Ideal S2048x6912 .bf16 :=
  prodOf (k0_pay5 x) (k0_pay3 x) (denseOf (placeOf (wrap 54#32 (rowOf W1)) (wrap 20#32 W2)) (scaledOf (k0_pay1 w) sc))

variable (m : (ℓ : Loc nD τ sig) → Buf (Elt Ideal) ℓ) (ρ : Dev nD → PrngReg)

theorem tail_y (c : Dev nD) (V : Valuation τ sig (Elt Ideal)) :
    StableHlo.after hostOps1 V (Proc.devRef .tc main_v34)
      = prodOf (V (Proc.devRef .tc main_v0_2)) (V (Proc.devRef .tc main_v0_1))
        (denseOf (placeOf (wrap 54#32 (rowOf (V (Proc.devRef .tc main_arg1)))) (wrap 20#32 (V (Proc.devRef .tc main_arg2))))
          (scaledOf (V (Proc.devRef .tc main_v0_3)) (V (Proc.devRef .tc main_arg4)))) := by
  after_results
  rfl

/-- Every block of the call is its whole array: an input window's block reads the array. -/
theorem iblk0 (c : Dev nD) (t : Fin cfg0.N) : iblk m c 0 t = m ((c.tc : Thread nD τ).loc main_arg0) := by
  funext y
  show m ((c.tc : Thread nD τ).loc main_arg0) _ = _
  congr 1
  funext a
  apply Fin.ext
  refine (ValueKit.view_emb_slice_whole_unit_val main_arg0 _ _ _ y a).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

theorem iblk1 (c : Dev nD) (t : Fin cfg0.N) : iblk m c 1 t = m ((c.tc : Thread nD τ).loc main_arg3) := by
  funext y
  show m ((c.tc : Thread nD τ).loc main_arg3) _ = _
  congr 1
  funext a
  apply Fin.ext
  refine (ValueKit.view_emb_slice_whole_unit_val main_arg3 _ _ _ y a).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)
  | ⟨2, _⟩ => exact (congrArg (· + (y 2).val) (Nat.zero_mul _)).trans (Nat.zero_add _)

theorem zero2 : (![0, 0] : Fin 2 → ℕ) = fun _ => 0 := by funext a; fin_cases a <;> rfl
theorem zero3 : (![0, 0, 0] : Fin 3 → ℕ) = fun _ => 0 := by funext a; fin_cases a <;> rfl

theorem out2_eq (x : Vec Ideal S2048x2560 .bf16) (w : Vec Ideal S162x128x128 .fp8e4m3) : out0_2 x w = k0_pay4 x := by
  unfold out0_2 r0_0
  rw [View.canon_cons_unit_zero zero2, View.ld_unit_zero zero2]
theorem out3_eq (x : Vec Ideal S2048x2560 .bf16) (w : Vec Ideal S162x128x128 .fp8e4m3) : out0_3 x w = k0_pay3 x := by
  unfold out0_3 r0_0 r0_1
  rw [View.canon_cons_unit_zero zero2, View.ld_unit_zero zero2]
theorem out4_eq (x : Vec Ideal S2048x2560 .bf16) (w : Vec Ideal S162x128x128 .fp8e4m3) : out0_4 x w = k0_pay5 x := by
  unfold out0_4 r0_0
  rw [View.canon_cons_unit_zero zero2, View.ld_unit_zero zero2]
theorem out5_eq (x : Vec Ideal S2048x2560 .bf16) (w : Vec Ideal S162x128x128 .fp8e4m3) : out0_5 x w = k0_pay1 w := by
  unfold out0_5 r0_2
  rw [View.canon_cons_unit_zero zero3, View.ld_unit_zero zero3]

theorem emb2 (t : Fin cfg0.N) (y : S2048x2560.Idx) : ((cfg0.win 2).blk t).view.emb y = (y : S2048x2560.Idx) := by
  funext a
  apply Fin.ext
  refine (ValueKit.view_emb_slice_whole_unit_val main_v0_0 _ _ _ y a).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

theorem final2 (c : Dev nD) : (dats m 0 c).arrAt 2 cfg0.N = k0_pay4 (m ((c.tc : Thread nD τ).loc main_arg0)) := by
  refine (dats m 0 c).arrAt_eq_of_emb 2 _ (fun t hf y => ?_) (fun i => ?_)
  · refine (congrFun (after0_2 m c t) y).trans ?_
    refine Eq.trans ?_ (congrArg (k0_pay4 (m ((c.tc : Thread nD τ).loc main_arg0))) (emb2 t y)).symm
    rw [out2_eq, iblk0]
  · refine ⟨(0 : Fin 1), flush0_2 _, ?_⟩
    have h := View.emb_mem_set ((cfg0.win 2).blk (0 : Fin 1)).view (i : S2048x2560.Idx)
    rwa [show ((cfg0.win 2).blk (0 : Fin 1)).view.emb (i : S2048x2560.Idx) = i from emb2 _ _] at h

theorem emb3 (t : Fin cfg0.N) (y : S2048x1.Idx) : ((cfg0.win 3).blk t).view.emb y = (y : S2048x1.Idx) := by
  funext a
  apply Fin.ext
  refine (ValueKit.view_emb_slice_whole_unit_val main_v0_1 _ _ _ y a).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

theorem final3 (c : Dev nD) : (dats m 0 c).arrAt 3 cfg0.N = k0_pay3 (m ((c.tc : Thread nD τ).loc main_arg0)) := by
  refine (dats m 0 c).arrAt_eq_of_emb 3 _ (fun t hf y => ?_) (fun i => ?_)
  · refine (congrFun (after0_3 m c t) y).trans ?_
    refine Eq.trans ?_ (congrArg (k0_pay3 (m ((c.tc : Thread nD τ).loc main_arg0))) (emb3 t y)).symm
    rw [out3_eq, iblk0]
  · refine ⟨(0 : Fin 1), flush0_3 _, ?_⟩
    have h := View.emb_mem_set ((cfg0.win 3).blk (0 : Fin 1)).view (i : S2048x1.Idx)
    rwa [show ((cfg0.win 3).blk (0 : Fin 1)).view.emb (i : S2048x1.Idx) = i from emb3 _ _] at h

theorem emb4 (t : Fin cfg0.N) (y : S2048x2560.Idx) : ((cfg0.win 4).blk t).view.emb y = (y : S2048x2560.Idx) := by
  funext a
  apply Fin.ext
  refine (ValueKit.view_emb_slice_whole_unit_val main_v0_2 _ _ _ y a).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

theorem final4 (c : Dev nD) : (dats m 0 c).arrAt 4 cfg0.N = k0_pay5 (m ((c.tc : Thread nD τ).loc main_arg0)) := by
  refine (dats m 0 c).arrAt_eq_of_emb 4 _ (fun t hf y => ?_) (fun i => ?_)
  · refine (congrFun (after0_4 m c t) y).trans ?_
    refine Eq.trans ?_ (congrArg (k0_pay5 (m ((c.tc : Thread nD τ).loc main_arg0))) (emb4 t y)).symm
    rw [out4_eq, iblk0]
  · refine ⟨(0 : Fin 1), flush0_4 _, ?_⟩
    have h := View.emb_mem_set ((cfg0.win 4).blk (0 : Fin 1)).view (i : S2048x2560.Idx)
    rwa [show ((cfg0.win 4).blk (0 : Fin 1)).view.emb (i : S2048x2560.Idx) = i from emb4 _ _] at h

theorem emb5 (t : Fin cfg0.N) (y : S162x128x128.Idx) : ((cfg0.win 5).blk t).view.emb y = (y : S162x128x128.Idx) := by
  funext a
  apply Fin.ext
  refine (ValueKit.view_emb_slice_whole_unit_val main_v0_3 _ _ _ y a).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)
  | ⟨2, _⟩ => exact (congrArg (· + (y 2).val) (Nat.zero_mul _)).trans (Nat.zero_add _)

theorem final5 (c : Dev nD) : (dats m 0 c).arrAt 5 cfg0.N = k0_pay1 (m ((c.tc : Thread nD τ).loc main_arg3)) := by
  refine (dats m 0 c).arrAt_eq_of_emb 5 _ (fun t hf y => ?_) (fun i => ?_)
  · refine (congrFun (after0_5 m c t) y).trans ?_
    refine Eq.trans ?_ (congrArg (k0_pay1 (m ((c.tc : Thread nD τ).loc main_arg3))) (emb5 t y)).symm
    rw [out5_eq, iblk1]
  · refine ⟨(0 : Fin 1), flush0_5 _, ?_⟩
    have h := View.emb_mem_set ((cfg0.win 5).blk (0 : Fin 1)).view (i : S162x128x128.Idx)
    rwa [show ((cfg0.win 5).blk (0 : Fin 1)).view.emb (i : S162x128x128.Idx) = i from emb5 _ _] at h

theorem hinj : Function.Injective (Pipeline.arrRef spec0) := by decide

theorem result_y (c : Dev nD) : Pipeline.afterTail₀ cfgs (dats m) 0 (V0 m) [hostOps1] c main_v34
    = outY (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Pipeline.afterTail₀
  refine (tail_y c _).trans ?_
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg4 (by exact (by decide : ∀ w, Pipeline.arrRef spec0 w ≠ main_arg4))]
  have e2 := (Pipeline.withArrays_arr spec0 hinj c (V0 m c) (fun w => (dats m 0 c).arrAt w cfg0.N) 4).trans (final4 m c)
  have e1 := (Pipeline.withArrays_arr spec0 hinj c (V0 m c) (fun w => (dats m 0 c).arrAt w cfg0.N) 3).trans (final3 m c)
  have e3 := (Pipeline.withArrays_arr spec0 hinj c (V0 m c) (fun w => (dats m 0 c).arrAt w cfg0.N) 5).trans (final5 m c)
  unfold outY
  refine congr (congr (congrArg prodOf e2) e1) (congrArg (denseOf _) (congrFun (congrArg scaledOf e3) _))

/-- Every run of the reference ends with its results at these terms and its arguments unchanged. -/
theorem run : θ_run defs (onTc (τ := τ) (main (F := Ideal))) ⟨m, fun _ => 0, ρ⟩ (fun r => ∀ c : Dev nD,
      r.2.mem ((c.tc : Thread nD τ).loc main_v34) = outY (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v0_0) = k0_pay4 (m ((c.tc : Thread nD τ).loc main_arg0))
      ∧ r.2.mem ((c.tc : Thread nD τ).loc main_v0_1) = k0_pay3 (m ((c.tc : Thread nD τ).loc main_arg0))) :=
  (θ_run defs _ _).mono (fun _ h c => ⟨((h c).2 main_v34 (Pipeline.mem_restRefs_of main_v34 (by decide) (by decide))).trans (result_y m c),
    ((h c).1 2).trans (final2 m c), ((h c).1 3).trans (final3 m c)⟩) (run_main m ρ)

end Cert.ReferenceIdeal.Value
end
-- ==== Proof.Sums.lean ====
/- A product with a matrix that is zero outside some blocks is the sum of the products with the blocks. -/
module

public import Idealize.ShloMosaic.Lib.Pointwise

@[expose] public section

noncomputable section

namespace Cert.Sums

open Finset

/-- A factor that is finite and not negative may be moved out of a sum. -/
theorem sum_mul_right {ι : Type} (S : Finset ι) (f : ι → EReal) (s : EReal) (h0 : 0 ≤ s) (ht : s ≠ ⊤) :
    (∑ i ∈ S, f i * s) = (∑ i ∈ S, f i) * s := by
  classical
  induction S using Finset.induction_on with
  | empty => simp
  | insert a S ha ih => rw [sum_insert ha, sum_insert ha, ih, EReal.right_distrib_of_nonneg_of_ne_top h0 ht]

/-- A sum over 2560 columns, of which only block `c` counts, is a sum over that block's 128 columns. -/
theorem sum_block (f : Fin 2560 → EReal) (c : ℕ) (hc : c < 20) :
    (∑ k : Fin 2560, if c = k.val / 128 then f k else 0) = ∑ l : Fin 128, f (Fin.ofNat 2560 (c * 128 + l.val)) := by
  classical
  rw [← sum_filter]
  symm
  refine sum_bij (fun l _ => Fin.ofNat 2560 (c * 128 + l.val)) ?_ ?_ ?_ ?_
  · intro l _
    have := l.isLt
    simp only [mem_filter, mem_univ, true_and, Fin.val_ofNat]
    omega
  · intro a _ b _ h
    have := a.isLt
    have := b.isLt
    have h := congrArg Fin.val h
    simp only [Fin.val_ofNat] at h
    apply Fin.ext
    omega
  · intro k hk
    have := k.isLt
    simp only [mem_filter, mem_univ, true_and] at hk
    refine ⟨⟨k.val % 128, by omega⟩, mem_univ _, ?_⟩
    apply Fin.ext
    simp only [Fin.val_ofNat]
    omega
  · intro l _
    rfl

/-- One row of the dense product, block by block. -/
theorem sum_sparse (q : Fin 2560 → EReal) (col : ℕ → ℕ) (w : ℕ → Fin 128 → EReal) (s : ℕ → EReal) (S : Finset ℕ) (W : Fin 2560 → EReal)
    (hcol : ∀ b ∈ S, col b < 20) (h0 : ∀ b ∈ S, 0 ≤ s b) (ht : ∀ b ∈ S, s b ≠ ⊤)
    (uniq : ∀ a ∈ S, ∀ b ∈ S, col a = col b → a = b)
    (hit : ∀ (k : Fin 2560), ∀ b ∈ S, col b = k.val / 128 → W k = w b (Fin.ofNat 128 k.val) * s b)
    (miss : ∀ k : Fin 2560, (∀ b ∈ S, col b ≠ k.val / 128) → W k = 0) :
    (∑ k : Fin 2560, q k * W k) = ∑ b ∈ S, (∑ l : Fin 128, q (Fin.ofNat 2560 (col b * 128 + l.val)) * w b l) * s b := by
  classical
  have e : ∀ k : Fin 2560, q k * W k = ∑ b ∈ S, if col b = k.val / 128 then q k * (w b (Fin.ofNat 128 k.val) * s b) else 0 := by
    intro k
    by_cases h : ∃ b ∈ S, col b = k.val / 128
    · obtain ⟨b, hb, hk⟩ := h
      rw [sum_eq_single b, if_pos hk, hit k b hb hk]
      · intro a ha hne
        rw [if_neg]
        intro hka
        exact hne (uniq a ha b hb (hka.trans hk.symm))
      · intro hn
        exact absurd hb hn
    · have h' : ∀ b ∈ S, col b ≠ k.val / 128 := fun b hb hk => h ⟨b, hb, hk⟩
      rw [miss k h', mul_zero]
      symm
      apply sum_eq_zero
      intro b hb
      rw [if_neg (h' b hb)]
  rw [sum_congr rfl (fun k _ => e k), sum_comm]
  refine sum_congr rfl (fun b hb => ?_)
  rw [sum_block (fun k => q k * (w b (Fin.ofNat 128 k.val) * s b)) (col b) (hcol b hb), ← sum_mul_right _ _ _ (h0 b hb) (ht b hb)]
  refine sum_congr rfl (fun l _ => ?_)
  have hl := l.isLt
  have hc := hcol b hb
  have : (Fin.ofNat 128 (Fin.ofNat 2560 (col b * 128 + l.val)).val : Fin 128) = l := by
    apply Fin.ext
    simp only [Fin.val_ofNat]
    omega
  rw [this, mul_assoc]

end Cert.Sums
end
-- ==== Proof.ReferenceIdeal.Dense.lean ====
/- The dense weights of the reference, entry by entry. -/
module

public import proofs.«01_k».proof.Proof.ReferenceIdeal.Value
public import proofs.«01_k».proof.Proof.Tables
public import proofs.«01_k».proof.Proof.Sums
public import Idealize.ShloMosaic.Lib.Routing.OpsSet
public import Idealize.ShloMosaic.Lib.Pointwise

@[expose] public section

set_option maxRecDepth 16384

noncomputable section

namespace Cert.ReferenceIdeal.Dense

open Idealize.ShloMosaic Cert.ReferenceIdeal Cert.ReferenceIdeal.Facts Cert.ReferenceIdeal.Gen Cert.ReferenceIdeal.Value Cert.Tables

/-- The placing of the blocks. -/
abbrev scd : ScatterDims S54x128x20x128 S162x2 S162x128x128 := scatter_S54x128x20x128_S162x2_S162x128x128_12_02_02_1

theorem start0 (j : S162x128x128.Idx) (p : IVec S162x2 32) : scd.start j p 0 = (p (ix2 (j 0) 0)).toInt := by
  unfold ScatterDims.start
  rw [dif_pos (by decide)]
  congr 2
  funext a
  match a with
  | ⟨0, _⟩ => rfl
  | ⟨1, _⟩ => rfl

theorem start1 (j : S162x128x128.Idx) (p : IVec S162x2 32) : scd.start j p 1 = 0 := by
  unfold ScatterDims.start
  rw [dif_neg (by decide)]

theorem start2 (j : S162x128x128.Idx) (p : IVec S162x2 32) : scd.start j p 2 = (p (ix2 (j 0) 1)).toInt := by
  unfold ScatterDims.start
  rw [dif_pos (by decide)]
  congr 2
  funext a
  match a with
  | ⟨0, _⟩ => rfl
  | ⟨1, _⟩ => rfl

theorem start3 (j : S162x128x128.Idx) (p : IVec S162x2 32) : scd.start j p 3 = 0 := by
  unfold ScatterDims.start
  rw [dif_neg (by decide)]

theorem window0 (j : S162x128x128.Idx) : scd.window j 0 = 0 := by
  unfold ScatterDims.window
  rw [dif_neg (by decide)]

theorem window1 (j : S162x128x128.Idx) : scd.window j 1 = (j 1).val := by
  unfold ScatterDims.window
  rw [dif_pos (by decide)]
  rfl

theorem window2 (j : S162x128x128.Idx) : scd.window j 2 = 0 := by
  unfold ScatterDims.window
  rw [dif_neg (by decide)]

theorem window3 (j : S162x128x128.Idx) : scd.window j 3 = (j 2).val := by
  unfold ScatterDims.window
  rw [dif_pos (by decide)]
  rfl

/-- Where an update lands. -/
theorem lands (j : S162x128x128.Idx) (p : IVec S162x2 32) (r : Fin 54) (o : Fin 128) (c : Fin 20) (l : Fin 128) :
    scd.resultIdx? j p = some (ix4 r o c l) ↔ (p (ix2 (j 0) 0)).toInt = r.val ∧ j 1 = o ∧ (p (ix2 (j 0) 1)).toInt = c.val ∧ j 2 = l := by
  rw [Routing.resultIdx?_eq_some]
  constructor
  · intro h
    have h0 := h 0
    have h1 := h 1
    have h2 := h 2
    have h3 := h 3
    rw [start0, window0] at h0
    rw [start1, window1] at h1
    rw [start2, window2] at h2
    rw [start3, window3] at h3
    simp only [Nat.cast_zero, add_zero, zero_add] at h0 h1 h2 h3
    exact ⟨h0, Fin.ext (by exact_mod_cast h1), h2, Fin.ext (by exact_mod_cast h3)⟩
  · rintro ⟨h0, h1, h2, h3⟩ a
    match a with
    | ⟨0, _⟩ =>
      refine (congrArg₂ (fun (u : ℤ) (v : ℕ) => u + (v : ℤ)) (start0 j p) (window0 j)).trans ?_
      simpa using h0
    | ⟨1, _⟩ =>
      refine (congrArg₂ (fun (u : ℤ) (v : ℕ) => u + (v : ℤ)) (start1 j p) (window1 j)).trans ?_
      simpa using congrArg Fin.val h1
    | ⟨2, _⟩ =>
      refine (congrArg₂ (fun (u : ℤ) (v : ℕ) => u + (v : ℤ)) (start2 j p) (window2 j)).trans ?_
      simpa using h2
    | ⟨3, _⟩ =>
      refine (congrArg₂ (fun (u : ℤ) (v : ℕ) => u + (v : ℤ)) (start3 j p) (window3 j)).trans ?_
      simpa using congrArg Fin.val h3

theorem place0 (r c : IVec S162 32) (b : Fin 162) : placeOf r c (ix2 b 0) = r (ix1 b) := by
  pointwise [placeOf]

theorem place1 (r c : IVec S162 32) (b : Fin 162) : placeOf r c (ix2 b 1) = c (ix1 b) := by
  pointwise [placeOf]

theorem wrap_apply (n : BitVec 32) (v : IVec S162 32) (b : Fin 162) (h : (v (ix1 b)).toNat < 2 ^ 31) : wrap n v (ix1 b) = v (ix1 b) :=
  Routing.wrap_of_lt (w := 32) (v (ix1 b)) (v (ix1 b) + n) h

theorem scaled_apply (wb : FVec Ideal S162x128x128 .bf16) (sc : FVec Ideal S162 .f32) (b : Fin 162) (o l : Fin 128) :
    scaledOf wb sc (ix3 b o l) = (wb (ix3 b o l) : EReal) * sc (ix1 b) := by
  pointwise [scaledOf]

theorem prod_apply (cb : FVec Ideal S2048x2560 .bf16) (xs : FVec Ideal S2048x1 .f32) (W : FVec Ideal S54x128x20x128 .bf16) (t : Fin 2048) (o : Fin 6912) :
    prodOf cb xs W (ix2 t o) = (∑ k : Fin 2560, (cb (ix2 t k) : EReal) * W (ix4 ⟨o.val / 128, by omega⟩ ⟨o.val % 128, by omega⟩ ⟨k.val / 128, by omega⟩ ⟨k.val % 128, by omega⟩))
      * xs (ix2 t 0) := by
  pointwise [prodOf]

theorem rowOf_toNat (W1 : IVec S55 32) (hW : ∀ q, st W1 q ≤ 162) (h0 : st W1 0 = 0) (b : Fin 162) :
    (rowOf W1 (ix1 b)).toNat + 1 = cnt (st W1) b.val := by
  have e := rowVec_apply W1 bcast_S55_S1x55_1 bcast_S1x55_S162x55_0_1 bcast_S162_S162x1_0 bcast_S162x1_S162x55_0_1 reducesTo_S162x55_S162_d1 h_S_ natLt_1_32 hW b
  have q : 0 < cnt (st W1) b.val := Finset.card_pos.mpr ⟨0, by simp [h0]⟩
  show BitVec.toNat (countOf W1 (ix1 b) - 1#32) + 1 = _
  change (countOf W1 (ix1 b)).toNat = _ at e
  have l := cnt_le (st W1) b.val
  rw [BitVec.toNat_sub, e]
  show (2 ^ 32 - 1 + _) % 2 ^ 32 + 1 = _
  omega

variable {W1 : IVec S55 32} {W2 : IVec S162 32} (hS : Sparse W1 W2)
include hS

theorem starts_le (q : Fin 55) : st W1 q ≤ 162 := (hS.mono (Fin.le_last q)).trans hS.top

/-- The two words of a block's place. -/
theorem place_row (b : Fin 162) (r : ℕ) (hr : r < 54) :
    (placeOf (wrap 54#32 (rowOf W1)) (wrap 20#32 W2) (ix2 b 0)).toInt = (r : ℤ) ↔ cnt (st W1) b.val = r + 1 := by
  have e := rowOf_toNat W1 (starts_le hS) hS.zero b
  have l := cnt_le (st W1) b.val
  rw [place0, wrap_apply _ _ _ (by omega), BitVec.toInt_eq_toNat_of_lt (by omega)]
  omega

theorem place_col (b : Fin 162) (c : ℕ) :
    (placeOf (wrap 54#32 (rowOf W1)) (wrap 20#32 W2) (ix2 b 1)).toInt = (c : ℤ) ↔ (W2 (ix1 b)).toNat = c := by
  have l := hS.col b
  rw [place1, wrap_apply _ _ _ (by omega), BitVec.toInt_eq_toNat_of_lt (by omega)]
  omega

/-- In a stored block the dense weights are the block, scaled. -/
theorem dense_hit (u : FVec Ideal S162x128x128 .bf16) (r : Fin 54) (o : Fin 128) (c : Fin 20) (l : Fin 128) (b : Fin 162)
    (hr : cnt (st W1) b.val = r.val + 1) (hc : (W2 (ix1 b)).toNat = c.val) :
    denseOf (placeOf (wrap 54#32 (rowOf W1)) (wrap 20#32 W2)) u (ix4 r o c l) = u (ix3 b o l) := by
  unfold denseOf
  refine Routing.scatter_set_hit _ _ _ _ _ _ (fun j hj => ?_) (ix3 b o l) ?_
  · obtain ⟨h0, h1, h2, h3⟩ := (lands j _ r o c l).mp hj
    have h0 := (place_row hS (j 0) r.val r.isLt).mp h0
    have h2 := (place_col hS (j 0) c.val).mp h2
    have hb : j 0 = b := hS.uniq (j 0) b (by have := r.isLt; omega) (h0.trans hr.symm) (BitVec.eq_of_toNat_eq (h2.trans hc.symm))
    congr 1
    funext a
    match a with
    | ⟨0, _⟩ => exact hb
    | ⟨1, _⟩ => exact h1
    | ⟨2, _⟩ => exact h3
  · exact (lands (ix3 b o l) _ r o c l).mpr ⟨(place_row hS b r.val r.isLt).mpr hr, rfl, (place_col hS b c.val).mpr hc, rfl⟩

/-- Outside the stored blocks they are zero. -/
theorem dense_miss (u : FVec Ideal S162x128x128 .bf16) (r : Fin 54) (o : Fin 128) (c : Fin 20) (l : Fin 128)
    (h : ∀ b : Fin 162, cnt (st W1) b.val = r.val + 1 → (W2 (ix1 b)).toNat ≠ c.val) :
    denseOf (placeOf (wrap 54#32 (rowOf W1)) (wrap 20#32 W2)) u (ix4 r o c l) = (0 : EReal) := by
  unfold denseOf
  refine (Routing.scatter_set_miss _ _ _ _ _ (fun j hj => ?_)).trans Ideal.ofBits_zero_bf16
  obtain ⟨h0, -, h2, -⟩ := (lands j _ r o c l).mp hj
  exact h (j 0) ((place_row hS (j 0) r.val r.isLt).mp h0) ((place_col hS (j 0) c.val).mp h2)

/-- The blocks of a row are those between two row starts. -/
theorem row_iff (b : ℕ) (r : Fin 54) : cnt (st W1) b = r.val + 1 ↔ st W1 r.castSucc ≤ b ∧ b < st W1 r.succ := by
  have h1 := le_iff (st W1) hS.mono b r.castSucc
  have h2 := le_iff (st W1) hS.mono b r.succ
  rw [h1, ← not_le (a := st W1 r.succ), h2]
  simp only [Fin.val_castSucc, Fin.val_succ]
  omega

/-- The reference's output, block by block. -/
theorem outY_apply (x : FVec Ideal S2048x2560 .bf16) (w : FVec Ideal S162x128x128 .fp8e4m3) (sc : FVec Ideal S162 .f32)
    (hs : ∀ b : Fin 162, (0 : EReal) ≤ sc (ix1 b) ∧ (sc (ix1 b) : EReal) ≠ ⊤) (t : Fin 2048) (o : Fin 6912) :
    (outY x W1 W2 w sc (ix2 t o) : EReal)
      = (∑ b ∈ Finset.Ico (st W1 ⟨o.val / 128, by omega⟩) (st W1 ⟨o.val / 128 + 1, by omega⟩),
          (∑ l : Fin 128, (k0_pay4 (F := Ideal) x (ix2 t (Fin.ofNat 2560 ((W2 (ix1 (Fin.ofNat 162 b))).toNat * 128 + l.val))) : EReal)
            * w (ix3 (Fin.ofNat 162 b) ⟨o.val % 128, by omega⟩ l)) * sc (ix1 (Fin.ofNat 162 b)))
        * (k0_pay3 (F := Ideal) x (ix2 t 0) : EReal) := by
  unfold outY
  rw [prod_apply]
  congr 1
  have hi := starts_le hS ⟨o.val / 128 + 1, by omega⟩
  have inb : ∀ b ∈ Finset.Ico (st W1 ⟨o.val / 128, by omega⟩) (st W1 ⟨o.val / 128 + 1, by omega⟩), b < 162 ∧ cnt (st W1) b = o.val / 128 + 1 := by
    intro b hb
    rw [Finset.mem_Ico] at hb
    exact ⟨by omega, (row_iff hS b ⟨o.val / 128, by omega⟩).mpr hb⟩
  have val : ∀ b, b < 162 → (Fin.ofNat 162 b : Fin 162).val = b := fun b hb => Nat.mod_eq_of_lt hb
  refine Cert.Sums.sum_sparse (fun k => (k0_pay5 (F := Ideal) x (ix2 t k) : EReal)) (fun b => (W2 (ix1 (Fin.ofNat 162 b))).toNat)
    (fun b l => w (ix3 (Fin.ofNat 162 b) ⟨o.val % 128, by omega⟩ l)) (fun b => sc (ix1 (Fin.ofNat 162 b))) _ _
    (fun b _ => hS.col _) (fun b _ => (hs _).1) (fun b _ => (hs _).2) ?_ ?_ ?_
  · intro a ha b hb hab
    have ia := inb a ha
    have ib := inb b hb
    have := congrArg Fin.val (hS.uniq (Fin.ofNat 162 a) (Fin.ofNat 162 b) (by rw [val a ia.1]; omega) (by rw [val a ia.1, val b ib.1]; omega) (BitVec.eq_of_toNat_eq hab))
    rwa [val a ia.1, val b ib.1] at this
  · intro k b hb hk
    have ib := inb b hb
    refine (dense_hit hS _ _ _ _ _ (Fin.ofNat 162 b) (by rw [val b ib.1]; exact ib.2) hk).trans ?_
    rw [scaled_apply]
    rfl
  · intro k hk
    refine dense_miss hS _ _ _ _ _ (fun b hb => ?_)
    have hb' := (row_iff hS b.val ⟨o.val / 128, by omega⟩).mp hb
    have := hk b.val (Finset.mem_Ico.mpr hb')
    have e : (Fin.ofNat 162 b.val : Fin 162) = b := Fin.ext (val b.val b.isLt)
    simp only [e] at this
    exact this

end Cert.ReferenceIdeal.Dense
end
-- ==== Proof.Equal.lean ====
/- The kernel's arrays and the reference's are equal. -/
module

public import proofs.«01_k».proof.Proof.KernelIdeal.Value
public import proofs.«01_k».proof.Proof.KernelIdeal.Quant
public import proofs.«01_k».proof.Proof.ReferenceIdeal.Quant
public import proofs.«01_k».proof.Proof.ReferenceIdeal.Dense

@[expose] public section

set_option maxRecDepth 16384

noncomputable section

namespace Cert.Equal

open Idealize.ShloMosaic Cert.Scale Cert.Tables
open Cert.KernelIdeal.Body (xBlk outC outS outY codesB xsB yB yOf accAt accStep rowAcc colsOf blockOf expo)
open Cert.KernelIdeal (S256x2560 S162x128x128 S162 S55 S256x128 S2048x2560)

theorem ix1_eq {n : ℕ} (i : Fin n) : Cert.KernelIdeal.Body.ix1 i = ix1 i := by
  funext a; match a with | ⟨0, _⟩ => rfl

theorem ix2_eq {n m : ℕ} (i : Fin n) (j : Fin m) : Cert.KernelIdeal.Body.ix2 i j = ix2 i j := by
  funext a; match a with | ⟨0, _⟩ => rfl | ⟨1, _⟩ => rfl

theorem ix3_eq {n m l : ℕ} (i : Fin n) (j : Fin m) (k : Fin l) : Cert.KernelIdeal.Body.ix3 i j k = ix3 i j k := by
  funext a; match a with | ⟨0, _⟩ => rfl | ⟨1, _⟩ => rfl | ⟨2, _⟩ => rfl

theorem cols_apply (q : Vec Ideal S256x2560 .fp8e4m3) (cw : ℕ) (r : Fin 256) (l : Fin 128) :
    colsOf q cw (ix2 r l) = q (ix2 r (Fin.ofNat 2560 (cw * 128 + l.val))) :=
  congrArg q (ix2_eq _ _)

theorem block_apply (w : Vec Ideal S162x128x128 .fp8e4m3) (b : ℕ) (k l : Fin 128) : blockOf w b (ix3 0 k l) = w (ix3 (Fin.ofNat 162 b) k l) :=
  congrArg w (ix3_eq _ _ _)

theorem step_apply (q : Vec Ideal S256x2560 .fp8e4m3) (w : Vec Ideal S162x128x128 .fp8e4m3) (sc : Vec Ideal S162 .f32) (W2 : Vec Ideal S162 .i32)
    (b : ℕ) (a : Vec Ideal S256x128 .f32) (r : Fin 256) (k : Fin 128) :
    (accStep q w sc W2 b a (ix2 r k) : EReal) = (a (ix2 r k) : EReal)
      + (∑ l : Fin 128, (q (ix2 r (Fin.ofNat 2560 ((BitVec.toNat (W2 (ix1 (Fin.ofNat 162 b)))) * 128 + l.val))) : EReal)
        * w (ix3 (Fin.ofNat 162 b) k l)) * sc (ix1 (Fin.ofNat 162 b)) := by
  unfold accStep
  refine (Cert.KernelIdeal.Quant.pay4_apply _ _ _ _ r k).trans ?_
  simp only [cols_apply, block_apply, ix1_eq]

/-- The accumulator, summed up. -/
theorem acc_apply (q : Vec Ideal S256x2560 .fp8e4m3) (w : Vec Ideal S162x128x128 .fp8e4m3) (sc : Vec Ideal S162 .f32) (W2 : Vec Ideal S162 .i32)
    (lo n : ℕ) (r : Fin 256) (k : Fin 128) :
    (accAt q w sc W2 lo n (ix2 r k) : EReal) = ∑ i ∈ Finset.range n,
      (∑ l : Fin 128, (q (ix2 r (Fin.ofNat 2560 ((BitVec.toNat (W2 (ix1 (Fin.ofNat 162 (lo + i))))) * 128 + l.val))) : EReal)
        * w (ix3 (Fin.ofNat 162 (lo + i)) k l)) * sc (ix1 (Fin.ofNat 162 (lo + i))) := by
  induction n with
  | zero => exact Cert.KernelIdeal.Quant.pay3_apply r k
  | succ n ih =>
    rw [Finset.sum_range_succ, ← ih]
    exact step_apply q w sc W2 (lo + n) _ r k

/-- A row of the output's block, block by block. -/
theorem yB_apply (x : Vec Ideal S256x2560 .bf16) (w : Vec Ideal S162x128x128 .fp8e4m3) (sc : Vec Ideal S162 .f32) (W1 : Vec Ideal S55 .i32)
    (W2 : Vec Ideal S162 .i32) (r : Fin 256) (o : Fin 6912) :
    (yB x w sc W1 W2 (ix2 r o) : EReal)
      = (∑ b ∈ Finset.Ico (st W1 ⟨o.val / 128, by omega⟩) (st W1 ⟨o.val / 128 + 1, by omega⟩),
          (∑ l : Fin 128, (codesB x (ix2 r (Fin.ofNat 2560 ((BitVec.toNat (W2 (ix1 (Fin.ofNat 162 b)))) * 128 + l.val))) : EReal)
            * w (ix3 (Fin.ofNat 162 b) ⟨o.val % 128, by omega⟩ l)) * sc (ix1 (Fin.ofNat 162 b)))
        * (xsB x (ix2 r 0) : EReal) := by
  have e0 : yB x w sc W1 W2 (ix2 r o)
      = Cert.KernelIdeal.Gen.k0_pay6 (expo x) 127#32 (rowAcc (codesB x) w sc W1 W2 (o.val / 128)) (ix2 r ⟨o.val % 128, by omega⟩) :=
    congrArg (Cert.KernelIdeal.Gen.k0_pay6 (expo x) 127#32 (rowAcc (codesB x) w sc W1 W2 (o.val / 128))) (ix2_eq _ _)
  refine e0.trans ((Cert.KernelIdeal.Quant.pay6_apply _ _ _ _).trans ?_)
  rw [Cert.KernelIdeal.Quant.expo_apply, scale_word, ← Cert.KernelIdeal.Quant.xsB_apply]
  refine congrArg (· * (xsB x (ix2 r 0) : EReal)) ?_
  unfold rowAcc
  refine (acc_apply _ _ _ _ _ _ _ _).trans ?_
  rw [Finset.sum_Ico_eq_sum_range]
  have e1 : (Fin.ofNat 55 (o.val / 128) : Fin 55) = ⟨o.val / 128, by omega⟩ := Fin.ext (Nat.mod_eq_of_lt (by omega))
  have e2 : (Fin.ofNat 55 (o.val / 128 + 1) : Fin 55) = ⟨o.val / 128 + 1, by omega⟩ := Fin.ext (Nat.mod_eq_of_lt (by omega))
  rw [e1, e2, ix1_eq, ix1_eq]
  rfl

/-- Row `t` is row `t % 256` of block `t / 256`. -/
theorem xBlk_row (x : Vec Ideal S2048x2560 .bf16) (t : Fin 2048) (k : Fin 2560) :
    xBlk x (t.val / 256) (ix2 (Fin.ofNat 256 t.val) k) = x (ix2 t k) := by
  have e : (Fin.ofNat 2048 (256 * (t.val / 256) + t.val % 256) : Fin 2048) = t := Fin.ext (by
    have := t.isLt
    show (256 * (t.val / 256) + t.val % 256) % 2048 = t.val
    omega)
  exact (congrArg x (ix2_eq _ _)).trans (congrArg (fun u : Fin 2048 => x (ix2 u k)) e)

theorem rowA_eq (x : Vec Ideal S2048x2560 .bf16) (t : Fin 2048) :
    Cert.KernelIdeal.Quant.rowA (xBlk x (t.val / 256)) (Fin.ofNat 256 t.val) = Cert.ReferenceIdeal.Quant.rowA x t := by
  unfold Cert.KernelIdeal.Quant.rowA Cert.ReferenceIdeal.Quant.rowA
  simp only [xBlk_row]

/-- A row of activations in bf16's finite range has its largest magnitude there. -/
theorem rowA_le (x : Vec Ideal S2048x2560 .bf16)
    (hx : ∀ (r : Fin 2048) (k : Fin 2560), max (x (ix2 r k) : EReal) (-(x (ix2 r k) : EReal)) ≤ Ideal.ofBits .bf16 0x7F7F#16) (t : Fin 2048) :
    Cert.ReferenceIdeal.Quant.rowA x t ≤ Ideal.ofBits .bf16 0x7F7F#16 := by
  unfold Cert.ReferenceIdeal.Quant.rowA
  refine (Finset.fold_max_le _).mpr ⟨?_, fun k _ => hx t k⟩
  have e : Ideal.ofBits .f32 0xFF800000#32 = (⊥ : EReal) := by simp [Ideal.ofBits, Ideal.ieee]
  rw [e]
  exact bot_le

variable (x : Vec Ideal S2048x2560 .bf16)
  (hx : ∀ (r : Fin 2048) (k : Fin 2560), max (x (ix2 r k) : EReal) (-(x (ix2 r k) : EReal)) ≤ Ideal.ofBits .bf16 0x7F7F#16)
include hx

theorem scale_eq (t : Fin 2048) : xsB (xBlk x (t.val / 256)) (ix2 (Fin.ofNat 256 t.val) 0) = Cert.ReferenceIdeal.Gen.k0_pay3 x (ix2 t 0) := by
  rw [Cert.KernelIdeal.Quant.xsB_apply, Cert.ReferenceIdeal.Quant.scale_apply x t (rowA_le x hx t), rowA_eq]

theorem code_eq (t : Fin 2048) (k : Fin 2560) :
    codesB (xBlk x (t.val / 256)) (ix2 (Fin.ofNat 256 t.val) k) = Cert.ReferenceIdeal.Gen.k0_pay4 x (ix2 t k) := by
  have h := rowA_le x hx t
  rw [Cert.KernelIdeal.Quant.codesB_apply _ _ _ (by rw [rowA_eq]; exact h), Cert.ReferenceIdeal.Quant.codes_apply x t k h, rowA_eq, xBlk_row]

/-- The codes are the reference's. -/
theorem outC_eq : outC x = Cert.ReferenceIdeal.Gen.k0_pay4 x := by
  funext i
  have e : i = ix2 (i 0) (i 1) := by funext a; match a with | ⟨0, _⟩ => rfl | ⟨1, _⟩ => rfl
  rw [e]
  exact (congrArg (codesB (xBlk x ((i 0).val / 256))) (ix2_eq _ _)).trans (code_eq x hx (i 0) (i 1))

/-- The scales are the reference's. -/
theorem outS_eq : outS x = Cert.ReferenceIdeal.Gen.k0_pay3 x := by
  funext i
  have e : i = ix2 (i 0) 0 := by
    funext a
    match a with
    | ⟨0, _⟩ => rfl
    | ⟨1, _⟩ => exact Subsingleton.elim (α := Fin 1) _ _
  rw [e]
  exact (congrArg (xsB (xBlk x ((i 0).val / 256))) (ix2_eq _ _)).trans (scale_eq x hx (i 0))

/-- The output is the reference's. -/
theorem outY_eq (w : Vec Ideal S162x128x128 .fp8e4m3) (sc : Vec Ideal S162 .f32) (W1 : Vec Ideal S55 .i32) (W2 : Vec Ideal S162 .i32)
    (hS : Sparse W1 W2) (hs : ∀ b : Fin 162, (0 : EReal) ≤ sc (ix1 b) ∧ (sc (ix1 b) : EReal) ≠ ⊤) :
    outY x w sc W1 W2 = Cert.ReferenceIdeal.Value.outY x W1 W2 w sc := by
  funext i
  have e : i = ix2 (i 0) (i 1) := by funext a; match a with | ⟨0, _⟩ => rfl | ⟨1, _⟩ => rfl
  rw [e]
  refine (congrArg (yB (xBlk x ((i 0).val / 256)) w sc W1 W2) (ix2_eq _ _)).trans ((yB_apply (xBlk x ((i 0).val / 256)) w sc W1 W2 (Fin.ofNat 256 (i 0).val) (i 1)).trans ?_)
  refine Eq.trans ?_ (Cert.ReferenceIdeal.Dense.outY_apply hS x w sc hs (i 0) (i 1)).symm
  simp only [code_eq x hx (i 0)]
  rw [scale_eq x hx (i 0)]

end Cert.Equal
end
-- ==== Proof.lean ====
module

public import proofs.«01_k».proof.Defs
public import proofs.«01_k».proof.Proof.Range
public import proofs.«01_k».proof.Proof.Kernel.Run
public import proofs.«01_k».proof.Proof.KernelIdeal.Run
public import proofs.«01_k».proof.Proof.Gen.ReferenceIdeal.Frame
public import proofs.«01_k».proof.Proof.Tables
public import proofs.«01_k».proof.Proof.Equal

@[expose] public section

noncomputable section

namespace Cert.Proof

open Idealize.ShloMosaic Idealize.SL.Sem

/-- The kernel's tables are in range under the precondition. -/
theorem range_Kernel (m : (ℓ : Loc Cert.Kernel.nD Cert.Kernel.τ Cert.Kernel.sig) → Buf (Elt Bits) ℓ) (h : Cert.Pre_Kernel m) :
    Cert.Kernel.Body.InRange m :=
  have := Cert.Range.of_pre _ _ _ _ _ (h 0)
  ⟨fun b => this.1 _, fun b => this.2 _⟩

/-- The idealized kernel's tables are in range under the precondition. -/
theorem range_KernelIdeal (m : (ℓ : Loc Cert.KernelIdeal.nD Cert.KernelIdeal.τ Cert.KernelIdeal.sig) → Buf (Elt Ideal) ℓ) (h : Cert.Pre_KernelIdeal m) :
    Cert.KernelIdeal.Body.InRange m :=
  have := Cert.Range.of_pre _ _ _ _ _ (h 0)
  ⟨fun b => this.1 _, fun b => this.2 _⟩

/-- So they are when they are a block-sparse matrix's. -/
theorem range_sparse (m : (ℓ : Loc Cert.KernelIdeal.nD Cert.KernelIdeal.τ Cert.KernelIdeal.sig) → Buf (Elt Ideal) ℓ)
    (h : Cert.Pre_KernelIdeal_block_sparse m) : Cert.KernelIdeal.Body.InRange m :=
  have hS := (Cert.Tables.of_pre (h 0)).1
  ⟨fun b => (congrArg (fun i => BitVec.toNat (Cert.KernelIdeal.Body.tab1 m i)) (Cert.Equal.ix1_eq b)).trans_le (Cert.ReferenceIdeal.Dense.starts_le hS b),
    fun b => (congrArg (fun i => BitVec.toNat (Cert.KernelIdeal.Body.tab2 m i)) (Cert.Equal.ix1_eq b)).trans_lt (hS.col b)⟩

/-- Kernel and reference end with equal results. -/
theorem equal : Cert.algebraic_KernelIdeal_ReferenceIdeal_pre_block_sparse := by
  intro m g m' g' hpre hargs
  have hT := range_sparse m hpre
  refine ⟨fun c => Cert.KernelIdeal.Body.outY (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.KernelIdeal.Body.outC (m ((c.tc : Thread Cert.KernelIdeal.nD Cert.KernelIdeal.τ).loc Cert.KernelIdeal.main_arg0)),
    fun c => Cert.KernelIdeal.Body.outS (m ((c.tc : Thread Cert.KernelIdeal.nD Cert.KernelIdeal.τ).loc Cert.KernelIdeal.main_arg0)), ?_, ?_⟩
  · refine (θ_run Cert.KernelIdeal.defs _ _).mono ?_
      (θ_run_and (Cert.KernelIdeal.Body.run_main m g hT trivial) (Cert.KernelIdeal.Body.unchanged m g hT trivial))
    intro r hr c
    obtain ⟨hv, hu⟩ := hr
    have c0 : c = 0 := Subsingleton.elim (α := Fin 1) _ _
    refine ⟨((hv c).1 3).trans ((Cert.KernelIdeal.Body.final3 m trivial c).trans ?_), ((hv c).1 4).trans (Cert.KernelIdeal.Body.final4 m trivial c),
      ((hv c).1 5).trans (Cert.KernelIdeal.Body.final5 m trivial c), hu c⟩
    subst c0
    rfl
  · refine (θ_run Cert.ReferenceIdeal.defs _ _).mono ?_ (θ_run_and (Cert.ReferenceIdeal.Value.run m' g') (Cert.ReferenceIdeal.Gen.unchanged m' g'))
    intro r hr c
    obtain ⟨hv, hu⟩ := hr
    obtain ⟨h0, h1, h2⟩ := hv c
    obtain ⟨a0, a1, a2, a3, a4⟩ := hargs c
    obtain ⟨hS, hs, hx⟩ := Cert.Tables.of_pre (hpre c)
    rw [a0, a1, a2, a3, a4] at h0
    rw [a0] at h1 h2
    exact ⟨h0.trans (Cert.Equal.outY_eq _ hx _ _ _ _ hS hs).symm, h1.trans (Cert.Equal.outC_eq _ hx).symm, h2.trans (Cert.Equal.outS_eq _ hx).symm, hu c⟩

theorem claim : Cert.Claim := ⟨Cert.Kernel.Gen.facts, Cert.KernelIdeal.Gen.facts, Cert.ReferenceIdeal.Gen.facts, Cert.Pre_tables_in_range.Gen.facts,
  Cert.Pre_block_sparse.Gen.facts,
  fun m ρ h => Cert.Kernel.Body.frame m ρ (range_Kernel m h) trivial,
  fun m ρ h => Cert.KernelIdeal.Body.frame m ρ (range_KernelIdeal m h) trivial,
  fun m ρ h => Cert.KernelIdeal.Body.frame m ρ (range_sparse m h) trivial,
  fun m ρ _ => Cert.ReferenceIdeal.Gen.frame m ρ,
  fun m ρ _ => Cert.ReferenceIdeal.Gen.frame m ρ,
  trivial,
  equal⟩

end Cert.Proof

end
